-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def preserves_Kernel_KernelIdeal : Prop :=
  True

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v28_1)) (v1 : (c : Dev Cert.KernelIdeal.nD) → Buf (Elt Ideal) ((c.tc : Thread Cert.KernelIdeal.nD Cert.KernelIdeal.τ).loc Cert.KernelIdeal.main_v28_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28_1) = v0 c
          ∧ r.2.mem ((c.tc : Thread Cert.KernelIdeal.nD Cert.KernelIdeal.τ).loc Cert.KernelIdeal.main_v28_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v173) = v0 c
          ∧ r.2.mem ((c.tc : Thread Cert.ReferenceIdeal.nD Cert.ReferenceIdeal.τ).loc Cert.ReferenceIdeal.main_v174) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S4x64x64x64 : Shape := ⟨4, ![4, 64, 64, 64]⟩
abbrev S256x64 : Shape := ⟨2, ![256, 64]⟩
abbrev S128x1x3 : Shape := ⟨3, ![128, 1, 3]⟩
abbrev S128 : Shape := ⟨1, ![128]⟩
abbrev S36x128 : Shape := ⟨2, ![36, 128]⟩
abbrev S128x4 : Shape := ⟨2, ![128, 4]⟩
abbrev S128x16 : Shape := ⟨2, ![128, 16]⟩
abbrev S64x128 : Shape := ⟨2, ![64, 128]⟩
abbrev S128x64x3x3 : Shape := ⟨4, ![128, 64, 3, 3]⟩
abbrev S128x256x1x1 : Shape := ⟨4, ![128, 256, 1, 1]⟩
abbrev S_ : Shape := ⟨0, ![]⟩

class Facts : Prop where
  bcast_S_S128 : S_.BroadcastsInDim S128 (![] : Fin 0 → Fin S128.rank)
  reducesTo_S128_S_d0 : S128.ReducesTo [0] S_
  h_S_ : 0 < S_.numel
  bcast_S_S4x64x64x64 : S_.BroadcastsInDim S4x64x64x64 (![] : Fin 0 → Fin S4x64x64x64.rank)
  reducesTo_S4x64x64x64_S_d0_1_2_3 : S4x64x64x64.ReducesTo [0, 1, 2, 3] S_
  bcast_S_S256x64 : S_.BroadcastsInDim S256x64 (![] : Fin 0 → Fin S256x64.rank)
  reducesTo_S256x64_S_d0_1 : S256x64.ReducesTo [0, 1] S_
  bcast_S_S128x1x3 : S_.BroadcastsInDim S128x1x3 (![] : Fin 0 → Fin S128x1x3.rank)
  reducesTo_S128x1x3_S_d0_1_2 : S128x1x3.ReducesTo [0, 1, 2] S_
  bcast_S_S36x128 : S_.BroadcastsInDim S36x128 (![] : Fin 0 → Fin S36x128.rank)
  reducesTo_S36x128_S_d0_1 : S36x128.ReducesTo [0, 1] S_
  bcast_S_S128x4 : S_.BroadcastsInDim S128x4 (![] : Fin 0 → Fin S128x4.rank)
  reducesTo_S128x4_S_d0_1 : S128x4.ReducesTo [0, 1] S_

variable [Facts]

def fn_part2 {F : FTy → Type} [FloatOps F] (main_arg12 : FVec F S128 .f32) (main_arg14 : FVec F S128 .f32) (main_v32 : IVec S_ 1) (main_v33 : FVec F S128 .f32) : IVec S_ 1 :=
  let main_cst_12 : FVec F S_ .f32 := constant S_ .f32 0x7F800000#32
  let main_v34 : FVec F S128 .f32 := broadcastInDim S128 ![] bcast_S_S128 main_cst_12
  let main_v35 : IVec S128 1 := cmpf .olt main_v33 main_v34
  let main_c_13 : IVec S_ 1 := constantI S_ 1 1#1
  let main_v36 : IVec S_ 1 := (fun x v => Host.reduce IntOp.andi x v reducesTo_S128_S_d0 h_S_) main_v35 main_c_13
  let main_v37 : IVec S_ 1 := andi main_v32 main_v36
  let main_v38 : FVec F S128 .f32 := Host.absf main_arg12
  let main_cst_14 : FVec F S_ .f32 := constant S_ .f32 0x7F800000#32
  let main_v39 : FVec F S128 .f32 := broadcastInDim S128 ![] bcast_S_S128 main_cst_14
  let main_v40 : IVec S128 1 := cmpf .olt main_v38 main_v39
  let main_c_15 : IVec S_ 1 := constantI S_ 1 1#1
  let main_v41 : IVec S_ 1 := (fun x v => Host.reduce IntOp.andi x v reducesTo_S128_S_d0 h_S_) main_v40 main_c_15
  let main_v42 : IVec S_ 1 := andi main_v37 main_v41
  let main_v43 : FVec F S128 .f32 := Host.absf main_arg14
  let main_cst_16 : FVec F S_ .f32 := constant S_ .f32 0x7F800000#32
  let main_v44 : FVec F S128 .f32 := broadcastInDim S128 ![] bcast_S_S128 main_cst_16
  let main_v45 : IVec S128 1 := cmpf .olt main_v43 main_v44
  let main_c_17 : IVec S_ 1 := constantI S_ 1 1#1
  let main_v46 : IVec S_ 1 := (fun x v => Host.reduce IntOp.andi x v reducesTo_S128_S_d0 h_S_) main_v45 main_c_17
  let main_v47 : IVec S_ 1 := andi main_v42 main_v46
  main_v47

def fn_part1 {F : FTy → Type} [FloatOps F] (main_arg3 : FVec F S128 .f32) (main_arg4 : FVec F S36x128 .f32) (main_arg5 : FVec F S128x4 .f32) (main_arg11 : FVec F S128 .f32) (main_arg12 : FVec F S128 .f32) (main_arg14 : FVec F S128 .f32) (main_v12 : IVec S_ 1) (main_v15 : IVec S128x1x3 1) (main_c_5 : IVec S_ 1) : IVec S_ 1 :=
  let main_v16 : IVec S_ 1 := (fun x v => Host.reduce IntOp.andi x v reducesTo_S128x1x3_S_d0_1_2 h_S_) main_v15 main_c_5
  let main_v17 : IVec S_ 1 := andi main_v12 main_v16
  let main_v18 : FVec F S128 .f32 := Host.absf main_arg3
  let main_cst_6 : FVec F S_ .f32 := constant S_ .f32 0x7F800000#32
  let main_v19 : FVec F S128 .f32 := broadcastInDim S128 ![] bcast_S_S128 main_cst_6
  let main_v20 : IVec S128 1 := cmpf .olt main_v18 main_v19
  let main_c_7 : IVec S_ 1 := constantI S_ 1 1#1
  let main_v21 : IVec S_ 1 := (fun x v => Host.reduce IntOp.andi x v reducesTo_S128_S_d0 h_S_) main_v20 main_c_7
  let main_v22 : IVec S_ 1 := andi main_v17 main_v21
  let main_v23 : FVec F S36x128 .f32 := Host.absf main_arg4
  let main_cst_8 : FVec F S_ .f32 := constant S_ .f32 0x7F800000#32
  let main_v24 : FVec F S36x128 .f32 := broadcastInDim S36x128 ![] bcast_S_S36x128 main_cst_8
  let main_v25 : IVec S36x128 1 := cmpf .olt main_v23 main_v24
  let main_c_9 : IVec S_ 1 := constantI S_ 1 1#1
  let main_v26 : IVec S_ 1 := (fun x v => Host.reduce IntOp.andi x v reducesTo_S36x128_S_d0_1 h_S_) main_v25 main_c_9
  let main_v27 : IVec S_ 1 := andi main_v22 main_v26
  let main_v28 : FVec F S128x4 .f32 := Host.absf main_arg5
  let main_cst_10 : FVec F S_ .f32 := constant S_ .f32 0x7F800000#32
  let main_v29 : FVec F S128x4 .f32 := broadcastInDim S128x4 ![] bcast_S_S128x4 main_cst_10
  let main_v30 : IVec S128x4 1 := cmpf .olt main_v28 main_v29
  let main_c_11 : IVec S_ 1 := constantI S_ 1 1#1
  let main_v31 : IVec S_ 1 := (fun x v => Host.reduce IntOp.andi x v reducesTo_S128x4_S_d0_1 h_S_) main_v30 main_c_11
  let main_v32 : IVec S_ 1 := andi main_v27 main_v31
  let main_v33 : FVec F S128 .f32 := Host.absf main_arg11
  fn_part2 (F := F) main_arg12 main_arg14 main_v32 main_v33

def fn {F : FTy → Type} [FloatOps F] (main_arg0 : FVec F S4x64x64x64 .f32) (main_arg1 : FVec F S256x64 .f32) (main_arg2 : FVec F S128x1x3 .f32) (main_arg3 : FVec F S128 .f32) (main_arg4 : FVec F S36x128 .f32) (main_arg5 : FVec F S128x4 .f32) (main_arg6 : FVec F S128 .f32) (main_arg7 : FVec F S128x16 .f32) (main_arg8 : FVec F S128 .f32) (main_arg9 : FVec F S64x128 .f32) (main_arg10 : FVec F S128x64x3x3 .f32) (main_arg11 : FVec F S128 .f32) (main_arg12 : FVec F S128 .f32) (main_arg13 : FVec F S128 .f32) (main_arg14 : FVec F S128 .f32) (main_arg15 : FVec F S128 .f32) (main_arg16 : FVec F S128x256x1x1 .f32) (main_arg17 : FVec F S128 .f32) : IVec S_ 1 :=
  let main_cst : FVec F S_ .f32 := constant S_ .f32 0x00000000#32
  let main_v0 : FVec F S128 .f32 := broadcastInDim S128 ![] bcast_S_S128 main_cst
  let main_v1 : IVec S128 1 := cmpf .oge main_arg15 main_v0
  let main_c : IVec S_ 1 := constantI S_ 1 1#1
  let main_v2 : IVec S_ 1 := (fun x v => Host.reduce IntOp.andi x v reducesTo_S128_S_d0 h_S_) main_v1 main_c
  let main_v3 : FVec F S4x64x64x64 .f32 := Host.absf main_arg0
  let main_cst_0 : FVec F S_ .f32 := constant S_ .f32 0x7F800000#32
  let main_v4 : FVec F S4x64x64x64 .f32 := broadcastInDim S4x64x64x64 ![] bcast_S_S4x64x64x64 main_cst_0
  let main_v5 : IVec S4x64x64x64 1 := cmpf .olt main_v3 main_v4
  let main_c_1 : IVec S_ 1 := constantI S_ 1 1#1
  let main_v6 : IVec S_ 1 := (fun x v => Host.reduce IntOp.andi x v reducesTo_S4x64x64x64_S_d0_1_2_3 h_S_) main_v5 main_c_1
  let main_v7 : IVec S_ 1 := andi main_v2 main_v6
  let main_v8 : FVec F S256x64 .f32 := Host.absf main_arg1
  let main_cst_2 : FVec F S_ .f32 := constant S_ .f32 0x7F800000#32
  let main_v9 : FVec F S256x64 .f32 := broadcastInDim S256x64 ![] bcast_S_S256x64 main_cst_2
  let main_v10 : IVec S256x64 1 := cmpf .olt main_v8 main_v9
  let main_c_3 : IVec S_ 1 := constantI S_ 1 1#1
  let main_v11 : IVec S_ 1 := (fun x v => Host.reduce IntOp.andi x v reducesTo_S256x64_S_d0_1 h_S_) main_v10 main_c_3
  let main_v12 : IVec S_ 1 := andi main_v7 main_v11
  let main_v13 : FVec F S128x1x3 .f32 := Host.absf main_arg2
  let main_cst_4 : FVec F S_ .f32 := constant S_ .f32 0x7F800000#32
  let main_v14 : FVec F S128x1x3 .f32 := broadcastInDim S128x1x3 ![] bcast_S_S128x1x3 main_cst_4
  let main_v15 : IVec S128x1x3 1 := cmpf .olt main_v13 main_v14
  let main_c_5 : IVec S_ 1 := constantI S_ 1 1#1
  fn_part1 (F := F) main_arg3 main_arg4 main_arg5 main_arg11 main_arg12 main_arg14 main_v12 main_v15 main_c_5
-- ==== Kernel.lean ====
abbrev S4x64x64x64 : Shape := ⟨4, ![4, 64, 64, 64]⟩
abbrev S256x64 : Shape := ⟨2, ![256, 64]⟩
abbrev S128x1x3 : Shape := ⟨3, ![128, 1, 3]⟩
abbrev S128 : Shape := ⟨1, ![128]⟩
abbrev S36x128 : Shape := ⟨2, ![36, 128]⟩
abbrev S128x4 : Shape := ⟨2, ![128, 4]⟩
abbrev S128x16 : Shape := ⟨2, ![128, 16]⟩
abbrev S64x128 : Shape := ⟨2, ![64, 128]⟩
abbrev S128x64x3x3 : Shape := ⟨4, ![128, 64, 3, 3]⟩
abbrev S128x256x1x1 : Shape := ⟨4, ![128, 256, 1, 1]⟩
abbrev S4x64x4096 : Shape := ⟨3, ![4, 64, 4096]⟩
abbrev S4x4096x64 : Shape := ⟨3, ![4, 4096, 64]⟩
abbrev S128x3 : Shape := ⟨2, ![128, 3]⟩
abbrev S3x128 : Shape := ⟨2, ![3, 128]⟩
abbrev S16x128 : Shape := ⟨2, ![16, 128]⟩
abbrev S4x128 : Shape := ⟨2, ![4, 128]⟩
abbrev S128x128 : Shape := ⟨2, ![128, 128]⟩
abbrev S32x128 : Shape := ⟨2, ![32, 128]⟩
abbrev S3x3x128x64 : Shape := ⟨4, ![3, 3, 128, 64]⟩
abbrev S9x128x64 : Shape := ⟨3, ![9, 128, 64]⟩
abbrev S_ : Shape := ⟨0, ![]⟩
abbrev S128x256 : Shape := ⟨2, ![128, 256]⟩
abbrev S1x128 : Shape := ⟨2, ![1, 128]⟩
abbrev S4x128x4096 : Shape := ⟨3, ![4, 128, 4096]⟩
abbrev S4x128x1024 : Shape := ⟨3, ![4, 128, 1024]⟩
abbrev S16384x128 : Shape := ⟨2, ![16384, 128]⟩
abbrev S32x16384 : Shape := ⟨2, ![32, 16384]⟩
abbrev S16384x64 : Shape := ⟨2, ![16384, 64]⟩
abbrev S16384x256 : Shape := ⟨2, ![16384, 256]⟩
abbrev S16384x1 : Shape := ⟨2, ![16384, 1]⟩
abbrev S16383x128 : Shape := ⟨2, ![16383, 128]⟩
abbrev S2x128 : Shape := ⟨2, ![2, 128]⟩
abbrev S16382x128 : Shape := ⟨2, ![16382, 128]⟩
abbrev S16x1x128 : Shape := ⟨3, ![16, 1, 128]⟩
abbrev S1x16x128 : Shape := ⟨3, ![1, 16, 128]⟩
abbrev S16x16x128 : Shape := ⟨3, ![16, 16, 128]⟩
abbrev S16x1 : Shape := ⟨2, ![16, 1]⟩
abbrev S4096x1 : Shape := ⟨2, ![4096, 1]⟩
abbrev S4096x64 : Shape := ⟨2, ![4096, 64]⟩
abbrev S65x64 : Shape := ⟨2, ![65, 64]⟩
abbrev S4031x64 : Shape := ⟨2, ![4031, 64]⟩
abbrev S1x128x64 : Shape := ⟨3, ![1, 128, 64]⟩
abbrev S128x64 : Shape := ⟨2, ![128, 64]⟩
abbrev S4096x128 : Shape := ⟨2, ![4096, 128]⟩
abbrev S64x64 : Shape := ⟨2, ![64, 64]⟩
abbrev S4032x64 : Shape := ⟨2, ![4032, 64]⟩
abbrev S63x64 : Shape := ⟨2, ![63, 64]⟩
abbrev S4033x64 : Shape := ⟨2, ![4033, 64]⟩
abbrev S1x64 : Shape := ⟨2, ![1, 64]⟩
abbrev S4095x64 : Shape := ⟨2, ![4095, 64]⟩
abbrev S128x4096 : Shape := ⟨2, ![128, 4096]⟩
abbrev S1x128x4096 : Shape := ⟨3, ![1, 128, 4096]⟩
abbrev S32x2x64x128 : Shape := ⟨4, ![32, 2, 64, 128]⟩
abbrev S32x1x64x128 : Shape := ⟨4, ![32, 1, 64, 128]⟩
abbrev S32x64x128 : Shape := ⟨3, ![32, 64, 128]⟩
abbrev S2048x128 : Shape := ⟨2, ![2048, 128]⟩
abbrev S1024x2x128 : Shape := ⟨3, ![1024, 2, 128]⟩
abbrev S1024x128 : Shape := ⟨2, ![1024, 128]⟩
abbrev S1024x256 : Shape := ⟨2, ![1024, 256]⟩
abbrev S128x1024 : Shape := ⟨2, ![128, 1024]⟩
abbrev S1x128x1024 : Shape := ⟨3, ![1, 128, 1024]⟩

abbrev nBuf : Space → Nat
  | .hbm => 49
  | .vmem => 20
  | .smem => 0
  | _ => 0

abbrev bufTy : (tb : Table) → Fin (tcTables nBuf tb) → BufTy
  | .hbm, ⟨0, _⟩ => ⟨S4x64x64x64, .f32⟩
  | .hbm, ⟨1, _⟩ => ⟨S256x64, .f32⟩
  | .hbm, ⟨2, _⟩ => ⟨S128x1x3, .f32⟩
  | .hbm, ⟨3, _⟩ => ⟨S128, .f32⟩
  | .hbm, ⟨4, _⟩ => ⟨S36x128, .f32⟩
  | .hbm, ⟨5, _⟩ => ⟨S128x4, .f32⟩
  | .hbm, ⟨6, _⟩ => ⟨S128, .f32⟩
  | .hbm, ⟨7, _⟩ => ⟨S128x16, .f32⟩
  | .hbm, ⟨8, _⟩ => ⟨S128, .f32⟩
  | .hbm, ⟨9, _⟩ => ⟨S64x128, .f32⟩
  | .hbm, ⟨10, _⟩ => ⟨S128x64x3x3, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S128x256x1x1, .f32⟩
  | .hbm, ⟨17, _⟩ => ⟨S128, .f32⟩
  | .hbm, ⟨18, _⟩ => ⟨S4x64x4096, .f32⟩
  | .hbm, ⟨19, _⟩ => ⟨S4x4096x64, .f32⟩
  | .hbm, ⟨20, _⟩ => ⟨S128x3, .f32⟩
  | .hbm, ⟨21, _⟩ => ⟨S3x128, .f32⟩
  | .hbm, ⟨22, _⟩ => ⟨S128x16, .f32⟩
  | .hbm, ⟨23, _⟩ => ⟨S128x16, .f32⟩
  | .hbm, ⟨24, _⟩ => ⟨S16x128, .f32⟩
  | .hbm, ⟨25, _⟩ => ⟨S4x128, .f32⟩
  | .hbm, ⟨26, _⟩ => ⟨S128x4, .f32⟩
  | .hbm, ⟨27, _⟩ => ⟨S4x128, .f32⟩
  | .hbm, ⟨28, _⟩ => ⟨S128x128, .f32⟩
  | .hbm, ⟨29, _⟩ => ⟨S32x128, .f32⟩
  | .hbm, ⟨30, _⟩ => ⟨S3x3x128x64, .f32⟩
  | .hbm, ⟨31, _⟩ => ⟨S9x128x64, .f32⟩
  | .hbm, ⟨32, _⟩ => ⟨S_, .f32⟩
  | .hbm, ⟨33, _⟩ => ⟨S128, .f32⟩
  | .hbm, ⟨34, _⟩ => ⟨S128, .f32⟩
  | .hbm, ⟨35, _⟩ => ⟨S128, .f32⟩
  | .hbm, ⟨36, _⟩ => ⟨S128, .f32⟩
  | .hbm, ⟨37, _⟩ => ⟨S128, .f32⟩
  | .hbm, ⟨38, _⟩ => ⟨S128, .f32⟩
  | .hbm, ⟨39, _⟩ => ⟨S128, .f32⟩
  | .hbm, ⟨40, _⟩ => ⟨S128x256, .f32⟩
  | .hbm, ⟨41, _⟩ => ⟨S1x128, .f32⟩
  | .hbm, ⟨42, _⟩ => ⟨S1x128, .f32⟩
  | .hbm, ⟨43, _⟩ => ⟨S1x128, .f32⟩
  | .hbm, ⟨44, _⟩ => ⟨S1x128, .f32⟩
  | .hbm, ⟨45, _⟩ => ⟨S1x128, .f32⟩
  | .hbm, ⟨46, _⟩ => ⟨S1x128, .f32⟩
  | .hbm, ⟨47, _⟩ => ⟨S4x128x4096, .f32⟩
  | .hbm, ⟨48, _⟩ => ⟨S4x128x1024, .f32⟩
  | .local _ .vmem, ⟨0, _⟩ => ⟨S4x4096x64, .f32⟩
  | .local _ .vmem, ⟨1, _⟩ => ⟨S256x64, .f32⟩
  | .local _ .vmem, ⟨2, _⟩ => ⟨S3x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S32x128, .f32⟩
  | .local _ .vmem, ⟨7, _⟩ => ⟨S16x128, .f32⟩
  | .local _ .vmem, ⟨8, _⟩ => ⟨S1x128, .f32⟩
  | .local _ .vmem, ⟨9, _⟩ => ⟨S64x128, .f32⟩
  | .local _ .vmem, ⟨10, _⟩ => ⟨S9x128x64, .f32⟩
  | .local _ .vmem, ⟨11, _⟩ => ⟨S1x128, .f32⟩
  | .local _ .vmem, ⟨12, _⟩ => ⟨S1x128, .f32⟩
  | .local _ .vmem, ⟨13, _⟩ => ⟨S128x256, .f32⟩
  | .local _ .vmem, ⟨14, _⟩ => ⟨S1x128, .f32⟩
  | .local _ .vmem, ⟨15, _⟩ => ⟨S4x128x4096, .f32⟩
  | .local _ .vmem, ⟨16, _⟩ => ⟨S4x128x1024, .f32⟩
  | .local _ .vmem, ⟨17, _⟩ => ⟨S16384x128, .f32⟩
  | .local _ .vmem, ⟨18, _⟩ => ⟨S16384x128, .f32⟩
  | .local _ .vmem, ⟨19, _⟩ => ⟨S32x16384, .f32⟩
  | _, _ => ⟨S4x64x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28_0 : Ref sig .tc := ⟨.hbm, 47, rfl⟩
abbrev main_v28_1 : Ref sig .tc := ⟨.hbm, 48, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16

abbrev nD : Nat := 1
abbrev τ : Topo := Topo.v7x

variable {F : FTy → Type} [FloatOps F]

abbrev grid0 : Pipeline.Grid := ⟨1, ![1], ![false]⟩

@[reducible] def k0_t1_loop : Scf.Loop 32 :=
  let c0_i32_40 : BitVec 32 := 0#32
  let c32_i32 : BitVec 32 := 32#32
  let v101 : BitVec 32 := Scalar.addi c0_i32_40 c32_i32
  let c1_i32_41 : BitVec 32 := 1#32
  ⟨c0_i32_40, v101, c1_i32_41⟩
def k0_mult1 (k0_t1 : Fin k0_t1_loop.trips) : BitVec 32 :=
  let c0_i32_40 : BitVec 32 := 0#32
  let c1_i32_41 : BitVec 32 := 1#32
  let arg21 : BitVec 32 := Scf.iv c0_i32_40 c1_i32_41 k0_t1
  let c128_i32 : BitVec 32 := 128#32
  let v721 : BitVec 32 := Scalar.muli arg21 c128_i32
  v721
def k0_off1 (k0_t1 : Fin k0_t1_loop.trips) (c0_i32_354 : BitVec 32) : Fin 2 → Nat :=
  let c0_i32_40 : BitVec 32 := 0#32
  let c1_i32_41 : BitVec 32 := 1#32
  let arg21 : BitVec 32 := Scf.iv c0_i32_40 c1_i32_41 k0_t1
  let c128_i32 : BitVec 32 := 128#32
  let v721 : BitVec 32 := Scalar.muli arg21 c128_i32
  let v722 : BitVec 32 := v721
  let v723 : BitVec 32 := Scalar.addi c0_i32_354 v722
  let v724 : Index := Scalar.indexCast v723
  let c0_355 : Index := 0#32
  ![v724.toNat, 0]
def k0_off2 (k0_t1 : Fin k0_t1_loop.trips) (c0_i32_368 : BitVec 32) : Fin 2 → Nat :=
  let c0_369 : Index := 0#32
  let c0_i32_40 : BitVec 32 := 0#32
  let c1_i32_41 : BitVec 32 := 1#32
  let arg21 : BitVec 32 := Scf.iv c0_i32_40 c1_i32_41 k0_t1
  let c128_i32 : BitVec 32 := 128#32
  let v721 : BitVec 32 := Scalar.muli arg21 c128_i32
  let v722 : BitVec 32 := v721
  let v751 : BitVec 32 := Scalar.addi c0_i32_368 v722
  let v752 : Index := Scalar.indexCast v751
  ![0, v752.toNat]
def k0_off3 (k0_t1 : Fin k0_t1_loop.trips) (c0_i32_377 : BitVec 32) (c0_i32_378 : BitVec 32) : Fin 2 → Nat :=
  let c0_i32_40 : BitVec 32 := 0#32
  let c1_i32_41 : BitVec 32 := 1#32
  let arg21 : BitVec 32 := Scf.iv c0_i32_40 c1_i32_41 k0_t1
  let c128_i32 : BitVec 32 := 128#32
  let v721 : BitVec 32 := Scalar.muli arg21 c128_i32
  let v722 : BitVec 32 := v721
  let v807 : BitVec 32 := Scalar.addi c0_i32_377 v722
  let v808 : BitVec 32 := Scalar.addi v807 c0_i32_378
  let v809 : Index := Scalar.indexCast v808
  let c0_379 : Index := 0#32
  ![v809.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S4x4096x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S9x128x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S4x128x4096 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]

abbrev stage0_16 : Fin 1 → Memref sig .tc .vmem S4x128x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true]
-- ==== ReferenceIdeal.lean ====
abbrev S4x64x64x64 : Shape := ⟨4, ![4, 64, 64, 64]⟩
abbrev S256x64 : Shape := ⟨2, ![256, 64]⟩
abbrev S128x1x3 : Shape := ⟨3, ![128, 1, 3]⟩
abbrev S128 : Shape := ⟨1, ![128]⟩
abbrev S36x128 : Shape := ⟨2, ![36, 128]⟩
abbrev S128x4 : Shape := ⟨2, ![128, 4]⟩
abbrev S128x16 : Shape := ⟨2, ![128, 16]⟩
abbrev S64x128 : Shape := ⟨2, ![64, 128]⟩
abbrev S128x64x3x3 : Shape := ⟨4, ![128, 64, 3, 3]⟩
abbrev S128x256x1x1 : Shape := ⟨4, ![128, 256, 1, 1]⟩
abbrev S4x64x4096 : Shape := ⟨3, ![4, 64, 4096]⟩
abbrev S4x4096x64 : Shape := ⟨3, ![4, 4096, 64]⟩
abbrev S64x256 : Shape := ⟨2, ![64, 256]⟩
abbrev S4x4096x256 : Shape := ⟨3, ![4, 4096, 256]⟩
abbrev S4x4096x128 : Shape := ⟨3, ![4, 4096, 128]⟩
abbrev S_ : Shape := ⟨0, ![]⟩
abbrev S4x4098x128 : Shape := ⟨3, ![4, 4098, 128]⟩
abbrev S128x1x1 : Shape := ⟨3, ![128, 1, 1]⟩
abbrev S1x1x128 : Shape := ⟨3, ![1, 1, 128]⟩
abbrev S128x36 : Shape := ⟨2, ![128, 36]⟩
abbrev S4x4096x36 : Shape := ⟨3, ![4, 4096, 36]⟩
abbrev S4x4096x4 : Shape := ⟨3, ![4, 4096, 4]⟩
abbrev S4x4096x16 : Shape := ⟨3, ![4, 4096, 16]⟩
abbrev S4x128 : Shape := ⟨2, ![4, 128]⟩
abbrev S4x128x16 : Shape := ⟨3, ![4, 128, 16]⟩
abbrev S4096x4x128 : Shape := ⟨3, ![4096, 4, 128]⟩
abbrev S4096x4x16 : Shape := ⟨3, ![4096, 4, 16]⟩
abbrev S1x4x128 : Shape := ⟨3, ![1, 4, 128]⟩
abbrev S1x4x16 : Shape := ⟨3, ![1, 4, 16]⟩
abbrev S4x16 : Shape := ⟨2, ![4, 16]⟩
abbrev S4x128x1 : Shape := ⟨3, ![4, 128, 1]⟩
abbrev S1x128x16 : Shape := ⟨3, ![1, 128, 16]⟩
abbrev S4x1x16 : Shape := ⟨3, ![4, 1, 16]⟩
abbrev S128x64 : Shape := ⟨2, ![128, 64]⟩
abbrev S4x64x66x66 : Shape := ⟨4, ![4, 64, 66, 66]⟩
abbrev S4x128x64x64 : Shape := ⟨4, ![4, 128, 64, 64]⟩
abbrev S128x64x1x1 : Shape := ⟨4, ![128, 64, 1, 1]⟩
abbrev S4x64x64x128 : Shape := ⟨4, ![4, 64, 64, 128]⟩
abbrev S1x128x1x1 : Shape := ⟨4, ![1, 128, 1, 1]⟩
abbrev S4x128x32x2x32x2 : Shape := ⟨6, ![4, 128, 32, 2, 32, 2]⟩
abbrev S4x128x32x32 : Shape := ⟨4, ![4, 128, 32, 32]⟩
abbrev S4x256x32x32 : Shape := ⟨4, ![4, 256, 32, 32]⟩
abbrev S128x256 : Shape := ⟨2, ![128, 256]⟩
abbrev S4x32x32x128 : Shape := ⟨4, ![4, 32, 32, 128]⟩
abbrev S4x128x1024 : Shape := ⟨3, ![4, 128, 1024]⟩
abbrev S4x128x4096 : Shape := ⟨3, ![4, 128, 4096]⟩

abbrev nBuf : Space → Nat
  | .hbm => 275
  | .vmem => 0
  | .smem => 0
  | _ => 0

abbrev hbmTy0_0 (i : Nat) : BufTy := match i % 128 with
  | 0 => ⟨S4x64x64x64, .f32⟩
  | 1 => ⟨S256x64, .f32⟩
  | 2 => ⟨S128x1x3, .f32⟩
  | 3 => ⟨S128, .f32⟩
  | 4 => ⟨S36x128, .f32⟩
  | 5 => ⟨S128x4, .f32⟩
  | 6 => ⟨S128, .f32⟩
  | 7 => ⟨S128x16, .f32⟩
  | 8 => ⟨S128, .f32⟩
  | 9 => ⟨S64x128, .f32⟩
  | 10 => ⟨S128x64x3x3, .f32⟩
  | 11 => ⟨S128, .f32⟩
  | 12 => ⟨S128, .f32⟩
  | 13 => ⟨S128, .f32⟩
  | 14 => ⟨S128, .f32⟩
  | 15 => ⟨S128, .f32⟩
  | 16 => ⟨S128x256x1x1, .f32⟩
  | 17 => ⟨S128, .f32⟩
  | 18 => ⟨S4x64x4096, .f32⟩
  | 19 => ⟨S4x4096x64, .f32⟩
  | 20 => ⟨S64x256, .f32⟩
  | 21 => ⟨S4x4096x256, .f32⟩
  | 22 => ⟨S4x4096x128, .f32⟩
  | 23 => ⟨S4x4096x128, .f32⟩
  | 24 => ⟨S_, .i32⟩
  | 25 => ⟨S_, .f32⟩
  | 26 => ⟨S4x4098x128, .f32⟩
  | 27 => ⟨S4x4096x128, .f32⟩
  | 28 => ⟨S128x1x1, .f32⟩
  | 29 => ⟨S128, .f32⟩
  | 30 => ⟨S1x1x128, .f32⟩
  | 31 => ⟨S4x4096x128, .f32⟩
  | 32 => ⟨S4x4096x128, .f32⟩
  | 33 => ⟨S4x4096x128, .f32⟩
  | 34 => ⟨S128x1x1, .f32⟩
  | 35 => ⟨S128, .f32⟩
  | 36 => ⟨S1x1x128, .f32⟩
  | 37 => ⟨S4x4096x128, .f32⟩
  | 38 => ⟨S4x4096x128, .f32⟩
  | 39 => ⟨S4x4096x128, .f32⟩
  | 40 => ⟨S4x4096x128, .f32⟩
  | 41 => ⟨S128x1x1, .f32⟩
  | 42 => ⟨S128, .f32⟩
  | 43 => ⟨S1x1x128, .f32⟩
  | 44 => ⟨S4x4096x128, .f32⟩
  | 45 => ⟨S4x4096x128, .f32⟩
  | 46 => ⟨S4x4096x128, .f32⟩
  | 47 => ⟨S1x1x128, .f32⟩
  | 48 => ⟨S4x4096x128, .f32⟩
  | 49 => ⟨S4x4096x128, .f32⟩
  | 50 => ⟨S4x4096x128, .f32⟩
  | 51 => ⟨S4x4096x128, .f32⟩
  | 52 => ⟨S_, .f32⟩
  | 53 => ⟨S4x4096x128, .f32⟩
  | 54 => ⟨S4x4096x128, .f32⟩
  | 55 => ⟨S_, .f32⟩
  | 56 => ⟨S4x4096x128, .f32⟩
  | 57 => ⟨S4x4096x128, .f32⟩
  | 58 => ⟨S4x4096x128, .f32⟩
  | 59 => ⟨S128x36, .f32⟩
  | 60 => ⟨S4x4096x36, .f32⟩
  | 61 => ⟨S4x4096x4, .f32⟩
  | 62 => ⟨S4x4096x16, .f32⟩
  | 63 => ⟨S4x4096x16, .f32⟩
  | 64 => ⟨S4x128, .f32⟩
  | 65 => ⟨S4x4096x128, .f32⟩
  | 66 => ⟨S1x1x128, .f32⟩
  | 67 => ⟨S4x4096x128, .f32⟩
  | 68 => ⟨S4x4096x128, .f32⟩
  | 69 => ⟨S_, .f32⟩
  | 70 => ⟨S4x4096x128, .f32⟩
  | 71 => ⟨S4x4096x128, .f32⟩
  | 72 => ⟨S4x4096x128, .f32⟩
  | 73 => ⟨S4x4096x128, .f32⟩
  | 74 => ⟨S4x4096x128, .i1⟩
  | 75 => ⟨S4x4096x128, .f32⟩
  | 76 => ⟨S4x4096x128, .f32⟩
  | 77 => ⟨S4x4096x128, .f32⟩
  | 78 => ⟨S4x4096x128, .f32⟩
  | 79 => ⟨S4x4096x128, .f32⟩
  | 80 => ⟨S4x4096x128, .f32⟩
  | 81 => ⟨S4x4096x128, .f32⟩
  | 82 => ⟨S4x4096x128, .f32⟩
  | 83 => ⟨S128x16, .f32⟩
  | 84 => ⟨S128x16, .f32⟩
  | 85 => ⟨S_, .f32⟩
  | 86 => ⟨S4x128x16, .f32⟩
  | 87 => ⟨S4096x4x128, .f32⟩
  | 88 => ⟨S4096x4x16, .f32⟩
  | 89 => ⟨S4096x4x16, .f32⟩
  | 90 => ⟨S4096x4x128, .f32⟩
  | 91 => ⟨S_, .f32⟩
  | 92 => ⟨S4096x4x128, .f32⟩
  | 93 => ⟨S_, .i32⟩
  | 94 => ⟨S4096x4x128, .f32⟩
  | 95 => ⟨S4096x4x16, .f32⟩
  | 96 => ⟨S4096x4x16, .f32⟩
  | 97 => ⟨S4096x4x128, .f32⟩
  | 98 => ⟨S128x16, .f32⟩
  | 99 => ⟨S_, .i32⟩
  | 100 => ⟨S4x128x16, .f32⟩
  | 101 => ⟨S4096x4x128, .f32⟩
  | 102 => ⟨S_, .i32⟩
  | 103 => ⟨S_, .i1⟩
  | 104 => ⟨S_, .i32⟩
  | 105 => ⟨S_, .i32⟩
  | 106 => ⟨S1x4x128, .f32⟩
  | 107 => ⟨S4x128, .f32⟩
  | 108 => ⟨S_, .i32⟩
  | 109 => ⟨S_, .i32⟩
  | 110 => ⟨S1x4x16, .f32⟩
  | 111 => ⟨S4x16, .f32⟩
  | 112 => ⟨S_, .i32⟩
  | 113 => ⟨S_, .i32⟩
  | 114 => ⟨S1x4x16, .f32⟩
  | 115 => ⟨S4x16, .f32⟩
  | 116 => ⟨S_, .i32⟩
  | 117 => ⟨S_, .i32⟩
  | 118 => ⟨S1x4x128, .f32⟩
  | 119 => ⟨S4x128, .f32⟩
  | 120 => ⟨S4x128x1, .f32⟩
  | 121 => ⟨S1x128x16, .f32⟩
  | 122 => ⟨S4x128x16, .f32⟩
  | 123 => ⟨S4x128x16, .f32⟩
  | 124 => ⟨S4x128x16, .f32⟩
  | 125 => ⟨S4x128x16, .f32⟩
  | 126 => ⟨S4x128x16, .f32⟩
  | 127 => ⟨S4x128x1, .f32⟩
  | _ => ⟨S4x64x64x64, .f32⟩

abbrev hbmTy0_1 (i : Nat) : BufTy := match i % 128 with
  | 0 => ⟨S4x1x16, .f32⟩
  | 1 => ⟨S4x128x16, .f32⟩
  | 2 => ⟨S4x128x16, .f32⟩
  | 3 => ⟨S4x128x16, .f32⟩
  | 4 => ⟨S4x128x1, .f32⟩
  | 5 => ⟨S4x128x16, .f32⟩
  | 6 => ⟨S4x128x16, .f32⟩
  | 7 => ⟨S4x128x16, .f32⟩
  | 8 => ⟨S4x128, .f32⟩
  | 9 => ⟨S1x4x128, .f32⟩
  | 10 => ⟨S_, .i32⟩
  | 11 => ⟨S_, .i32⟩
  | 12 => ⟨S4096x4x128, .f32⟩
  | 13 => ⟨S_, .i32⟩
  | 14 => ⟨S_, .i32⟩
  | 15 => ⟨S4x4096x128, .f32⟩
  | 16 => ⟨S1x1x128, .f32⟩
  | 17 => ⟨S4x4096x128, .f32⟩
  | 18 => ⟨S4x4096x128, .f32⟩
  | 19 => ⟨S4x4096x128, .f32⟩
  | 20 => ⟨S4x4096x128, .f32⟩
  | 21 => ⟨S4x4096x128, .f32⟩
  | 22 => ⟨S_, .f32⟩
  | 23 => ⟨S4x4096x128, .f32⟩
  | 24 => ⟨S4x4096x128, .f32⟩
  | 25 => ⟨S_, .f32⟩
  | 26 => ⟨S4x4096x128, .f32⟩
  | 27 => ⟨S4x4096x128, .f32⟩
  | 28 => ⟨S4x4096x128, .f32⟩
  | 29 => ⟨S4x4096x128, .f32⟩
  | 30 => ⟨S128x64, .f32⟩
  | 31 => ⟨S4x4096x64, .f32⟩
  | 32 => ⟨S4x64x4096, .f32⟩
  | 33 => ⟨S4x64x64x64, .f32⟩
  | 34 => ⟨S4x64x64x64, .f32⟩
  | 35 => ⟨S_, .i32⟩
  | 36 => ⟨S_, .f32⟩
  | 37 => ⟨S4x64x66x66, .f32⟩
  | 38 => ⟨S_, .f32⟩
  | 39 => ⟨S4x128x64x64, .f32⟩
  | 40 => ⟨S128x64x1x1, .f32⟩
  | 41 => ⟨S128x64, .f32⟩
  | 42 => ⟨S4x64x64x64, .f32⟩
  | 43 => ⟨S4x64x64x128, .f32⟩
  | 44 => ⟨S4x128x64x64, .f32⟩
  | 45 => ⟨S4x128x64x64, .f32⟩
  | 46 => ⟨S128x64x1x1, .f32⟩
  | 47 => ⟨S128x64, .f32⟩
  | 48 => ⟨S4x64x64x64, .f32⟩
  | 49 => ⟨S4x64x64x128, .f32⟩
  | 50 => ⟨S4x128x64x64, .f32⟩
  | 51 => ⟨S4x128x64x64, .f32⟩
  | 52 => ⟨S128x64x1x1, .f32⟩
  | 53 => ⟨S128x64, .f32⟩
  | 54 => ⟨S4x64x64x64, .f32⟩
  | 55 => ⟨S4x64x64x128, .f32⟩
  | 56 => ⟨S4x128x64x64, .f32⟩
  | 57 => ⟨S4x128x64x64, .f32⟩
  | 58 => ⟨S128x64x1x1, .f32⟩
  | 59 => ⟨S128x64, .f32⟩
  | 60 => ⟨S4x64x64x64, .f32⟩
  | 61 => ⟨S4x64x64x128, .f32⟩
  | 62 => ⟨S4x128x64x64, .f32⟩
  | 63 => ⟨S4x128x64x64, .f32⟩
  | 64 => ⟨S128x64x1x1, .f32⟩
  | 65 => ⟨S128x64, .f32⟩
  | 66 => ⟨S4x64x64x64, .f32⟩
  | 67 => ⟨S4x64x64x128, .f32⟩
  | 68 => ⟨S4x128x64x64, .f32⟩
  | 69 => ⟨S4x128x64x64, .f32⟩
  | 70 => ⟨S128x64x1x1, .f32⟩
  | 71 => ⟨S128x64, .f32⟩
  | 72 => ⟨S4x64x64x64, .f32⟩
  | 73 => ⟨S4x64x64x128, .f32⟩
  | 74 => ⟨S4x128x64x64, .f32⟩
  | 75 => ⟨S4x128x64x64, .f32⟩
  | 76 => ⟨S128x64x1x1, .f32⟩
  | 77 => ⟨S128x64, .f32⟩
  | 78 => ⟨S4x64x64x64, .f32⟩
  | 79 => ⟨S4x64x64x128, .f32⟩
  | 80 => ⟨S4x128x64x64, .f32⟩
  | 81 => ⟨S4x128x64x64, .f32⟩
  | 82 => ⟨S128x64x1x1, .f32⟩
  | 83 => ⟨S128x64, .f32⟩
  | 84 => ⟨S4x64x64x64, .f32⟩
  | 85 => ⟨S4x64x64x128, .f32⟩
  | 86 => ⟨S4x128x64x64, .f32⟩
  | 87 => ⟨S4x128x64x64, .f32⟩
  | 88 => ⟨S128x64x1x1, .f32⟩
  | 89 => ⟨S128x64, .f32⟩
  | 90 => ⟨S4x64x64x64, .f32⟩
  | 91 => ⟨S4x64x64x128, .f32⟩
  | 92 => ⟨S4x128x64x64, .f32⟩
  | 93 => ⟨S4x128x64x64, .f32⟩
  | 94 => ⟨S1x128x1x1, .f32⟩
  | 95 => ⟨S4x128x64x64, .f32⟩
  | 96 => ⟨S4x128x64x64, .f32⟩
  | 97 => ⟨S1x128x1x1, .f32⟩
  | 98 => ⟨S4x128x64x64, .f32⟩
  | 99 => ⟨S4x128x64x64, .f32⟩
  | 100 => ⟨S_, .f32⟩
  | 101 => ⟨S128, .f32⟩
  | 102 => ⟨S128, .f32⟩
  | 103 => ⟨S128, .f32⟩
  | 104 => ⟨S1x128x1x1, .f32⟩
  | 105 => ⟨S4x128x64x64, .f32⟩
  | 106 => ⟨S4x128x64x64, .f32⟩
  | 107 => ⟨S1x128x1x1, .f32⟩
  | 108 => ⟨S4x128x64x64, .f32⟩
  | 109 => ⟨S4x128x64x64, .f32⟩
  | 110 => ⟨S1x128x1x1, .f32⟩
  | 111 => ⟨S4x128x64x64, .f32⟩
  | 112 => ⟨S4x128x64x64, .f32⟩
  | 113 => ⟨S_, .f32⟩
  | 114 => ⟨S4x128x64x64, .f32⟩
  | 115 => ⟨S4x128x64x64, .f32⟩
  | 116 => ⟨S4x128x32x2x32x2, .f32⟩
  | 117 => ⟨S_, .f32⟩
  | 118 => ⟨S4x128x32x32, .f32⟩
  | 119 => ⟨S_, .f32⟩
  | 120 => ⟨S4x128x32x32, .f32⟩
  | 121 => ⟨S_, .f32⟩
  | 122 => ⟨S4x128x32x32, .f32⟩
  | 123 => ⟨S4x128x32x32, .f32⟩
  | 124 => ⟨S4x256x32x32, .f32⟩
  | 125 => ⟨S128x256, .f32⟩
  | 126 => ⟨S4x32x32x128, .f32⟩
  | 127 => ⟨S4x128x32x32, .f32⟩
  | _ => ⟨S4x64x64x64, .f32⟩

abbrev hbmTy0_2 (i : Nat) : BufTy := match i % 128 with
  | 0 => ⟨S1x128x1x1, .f32⟩
  | 1 => ⟨S4x128x32x32, .f32⟩
  | 2 => ⟨S4x128x32x32, .f32⟩
  | 3 => ⟨S4x128x32x32, .f32⟩
  | 4 => ⟨S4x128x32x32, .f32⟩
  | 5 => ⟨S_, .f32⟩
  | 6 => ⟨S4x128x32x32, .f32⟩
  | 7 => ⟨S4x128x32x32, .f32⟩
  | 8 => ⟨S_, .f32⟩
  | 9 => ⟨S4x128x32x32, .f32⟩
  | 10 => ⟨S4x128x32x32, .f32⟩
  | 11 => ⟨S4x128x32x32, .f32⟩
  | 12 => ⟨S_, .f32⟩
  | 13 => ⟨S4x128x32x32, .f32⟩
  | 14 => ⟨S4x128x32x32, .f32⟩
  | 15 => ⟨S4x128x32x32, .f32⟩
  | 16 => ⟨S4x128x32x32, .f32⟩
  | 17 => ⟨S4x128x1024, .f32⟩
  | 18 => ⟨S4x128x4096, .f32⟩
  | _ => ⟨S4x64x64x64, .f32⟩

abbrev hbmTy (i : Nat) : BufTy := match i / 128 with
  | 0 => hbmTy0_0 i
  | 1 => hbmTy0_1 i
  | 2 => hbmTy0_2 i
  | _ => ⟨S4x64x64x64, .f32⟩

abbrev bufTy : (tb : Table) → Fin (tcTables nBuf tb) → BufTy
  | .hbm, ⟨i, _⟩ => hbmTy i
  | _, _ => ⟨S4x64x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_c : Ref sig .tc := ⟨.hbm, 24, rfl⟩
abbrev main_call0_v0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst : Ref sig .tc := ⟨.hbm, 52, rfl⟩
abbrev main_v32 : Ref sig .tc := ⟨.hbm, 53, rfl⟩
abbrev main_v33 : Ref sig .tc := ⟨.hbm, 54, rfl⟩
abbrev main_cst_0 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call1_cst : Ref sig .tc := ⟨.hbm, 69, rfl⟩
abbrev main_call1_v0 : Ref sig .tc := ⟨.hbm, 70, rfl⟩
abbrev main_call1_v1 : Ref sig .tc := ⟨.hbm, 71, rfl⟩
abbrev main_call1_v2 : Ref sig .tc := ⟨.hbm, 72, rfl⟩
abbrev main_call1_v3 : Ref sig .tc := ⟨.hbm, 73, rfl⟩
abbrev main_call1_v4 : Ref sig .tc := ⟨.hbm, 74, rfl⟩
abbrev main_call1_v5 : Ref sig .tc := ⟨.hbm, 75, rfl⟩
abbrev main_call1_v6 : Ref sig .tc := ⟨.hbm, 76, rfl⟩
abbrev main_call1_v7 : Ref sig .tc := ⟨.hbm, 77, rfl⟩
abbrev main_call1_v8 : Ref sig .tc := ⟨.hbm, 78, rfl⟩
abbrev main_call1_v9 : Ref sig .tc := ⟨.hbm, 79, rfl⟩
abbrev main_call1_v10 : Ref sig .tc := ⟨.hbm, 80, rfl⟩
abbrev main_call1_v11 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_cst_1 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_cst_2 : Ref sig .tc := ⟨.hbm, 91, rfl⟩
abbrev main_v55 : Ref sig .tc := ⟨.hbm, 92, rfl⟩
abbrev main_c_3 : Ref sig .tc := ⟨.hbm, 93, rfl⟩
abbrev main_v56_0 : Ref sig .tc := ⟨.hbm, 94, rfl⟩
abbrev main_v56_1 : Ref sig .tc := ⟨.hbm, 95, rfl⟩
abbrev main_v56_2 : Ref sig .tc := ⟨.hbm, 96, rfl⟩
abbrev main_v56_3 : Ref sig .tc := ⟨.hbm, 97, rfl⟩
abbrev main_v56_4 : Ref sig .tc := ⟨.hbm, 98, rfl⟩
abbrev main_v56_5 : Ref sig .tc := ⟨.hbm, 99, rfl⟩
abbrev main_v56_6 : Ref sig .tc := ⟨.hbm, 100, rfl⟩
abbrev main_v56_7 : Ref sig .tc := ⟨.hbm, 101, rfl⟩
abbrev main_while0c_c_22 : Ref sig .tc := ⟨.hbm, 102, rfl⟩
abbrev main_while0c_v175 : Ref sig .tc := ⟨.hbm, 103, rfl⟩
abbrev main_while0b_call2_c : Ref sig .tc := ⟨.hbm, 104, rfl⟩
abbrev main_while0b_call2_c_0 : Ref sig .tc := ⟨.hbm, 105, rfl⟩
abbrev main_while0b_call2_v0 : Ref sig .tc := ⟨.hbm, 106, rfl⟩
abbrev main_while0b_v175 : Ref sig .tc := ⟨.hbm, 107, rfl⟩
abbrev main_while0b_call3_c : Ref sig .tc := ⟨.hbm, 108, rfl⟩
abbrev main_while0b_call3_c_0 : Ref sig .tc := ⟨.hbm, 109, rfl⟩
abbrev main_while0b_call3_v0 : Ref sig .tc := ⟨.hbm, 110, rfl⟩
abbrev main_while0b_v176 : Ref sig .tc := ⟨.hbm, 111, rfl⟩
abbrev main_while0b_call4_c : Ref sig .tc := ⟨.hbm, 112, rfl⟩
abbrev main_while0b_call4_c_0 : Ref sig .tc := ⟨.hbm, 113, rfl⟩
abbrev main_while0b_call4_v0 : Ref sig .tc := ⟨.hbm, 114, rfl⟩
abbrev main_while0b_v177 : Ref sig .tc := ⟨.hbm, 115, rfl⟩
abbrev main_while0b_call5_c : Ref sig .tc := ⟨.hbm, 116, rfl⟩
abbrev main_while0b_call5_c_0 : Ref sig .tc := ⟨.hbm, 117, rfl⟩
abbrev main_while0b_call5_v0 : Ref sig .tc := ⟨.hbm, 118, rfl⟩
abbrev main_while0b_v178 : Ref sig .tc := ⟨.hbm, 119, rfl⟩
abbrev main_while0b_v179 : Ref sig .tc := ⟨.hbm, 120, rfl⟩
abbrev main_while0b_v180 : Ref sig .tc := ⟨.hbm, 121, rfl⟩
abbrev main_while0b_v181 : Ref sig .tc := ⟨.hbm, 122, rfl⟩
abbrev main_while0b_v182 : Ref sig .tc := ⟨.hbm, 123, rfl⟩
abbrev main_while0b_v183 : Ref sig .tc := ⟨.hbm, 124, rfl⟩
abbrev main_while0b_v184 : Ref sig .tc := ⟨.hbm, 125, rfl⟩
abbrev main_while0b_v185 : Ref sig .tc := ⟨.hbm, 126, rfl⟩
abbrev main_while0b_v186 : Ref sig .tc := ⟨.hbm, 127, rfl⟩
abbrev main_while0b_v187 : Ref sig .tc := ⟨.hbm, 128, rfl⟩
abbrev main_while0b_v188 : Ref sig .tc := ⟨.hbm, 129, rfl⟩
abbrev main_while0b_v189 : Ref sig .tc := ⟨.hbm, 130, rfl⟩
abbrev main_while0b_v190 : Ref sig .tc := ⟨.hbm, 131, rfl⟩
abbrev main_while0b_v191 : Ref sig .tc := ⟨.hbm, 132, rfl⟩
abbrev main_while0b_v192 : Ref sig .tc := ⟨.hbm, 133, rfl⟩
abbrev main_while0b_v193 : Ref sig .tc := ⟨.hbm, 134, rfl⟩
abbrev main_while0b_v194 : Ref sig .tc := ⟨.hbm, 135, rfl⟩
abbrev main_while0b_v195 : Ref sig .tc := ⟨.hbm, 136, rfl⟩
abbrev main_while0b_call6_v0 : Ref sig .tc := ⟨.hbm, 137, rfl⟩
abbrev main_while0b_call6_c : Ref sig .tc := ⟨.hbm, 138, rfl⟩
abbrev main_while0b_call6_c_0 : Ref sig .tc := ⟨.hbm, 139, rfl⟩
abbrev main_while0b_v196 : Ref sig .tc := ⟨.hbm, 140, rfl⟩
abbrev main_while0b_c_22 : Ref sig .tc := ⟨.hbm, 141, rfl⟩
abbrev main_while0b_v197 : Ref sig .tc := ⟨.hbm, 142, rfl⟩
abbrev main_v57 : Ref sig .tc := ⟨.hbm, 143, rfl⟩
abbrev main_v58 : Ref sig .tc := ⟨.hbm, 144, rfl⟩
abbrev main_v59 : Ref sig .tc := ⟨.hbm, 145, rfl⟩
abbrev main_v60 : Ref sig .tc := ⟨.hbm, 146, rfl⟩
abbrev main_v61 : Ref sig .tc := ⟨.hbm, 147, rfl⟩
abbrev main_v62 : Ref sig .tc := ⟨.hbm, 148, rfl⟩
abbrev main_v63 : Ref sig .tc := ⟨.hbm, 149, rfl⟩
abbrev main_cst_4 : Ref sig .tc := ⟨.hbm, 150, rfl⟩
abbrev main_v64 : Ref sig .tc := ⟨.hbm, 151, rfl⟩
abbrev main_v65 : Ref sig .tc := ⟨.hbm, 152, rfl⟩
abbrev main_cst_5 : Ref sig .tc := ⟨.hbm, 153, rfl⟩
abbrev main_v66 : Ref sig .tc := ⟨.hbm, 154, rfl⟩
abbrev main_v67 : Ref sig .tc := ⟨.hbm, 155, rfl⟩
abbrev main_v68 : Ref sig .tc := ⟨.hbm, 156, rfl⟩
abbrev main_v69 : Ref sig .tc := ⟨.hbm, 157, rfl⟩
abbrev main_v70 : Ref sig .tc := ⟨.hbm, 158, rfl⟩
abbrev main_v71 : Ref sig .tc := ⟨.hbm, 159, rfl⟩
abbrev main_v72 : Ref sig .tc := ⟨.hbm, 160, rfl⟩
abbrev main_v73 : Ref sig .tc := ⟨.hbm, 161, rfl⟩
abbrev main_v74 : Ref sig .tc := ⟨.hbm, 162, rfl⟩
abbrev main_c_6 : Ref sig .tc := ⟨.hbm, 163, rfl⟩
abbrev main_call7_v0 : Ref sig .tc := ⟨.hbm, 164, rfl⟩
abbrev main_v75 : Ref sig .tc := ⟨.hbm, 165, rfl⟩
abbrev main_cst_7 : Ref sig .tc := ⟨.hbm, 166, rfl⟩
abbrev main_v76 : Ref sig .tc := ⟨.hbm, 167, rfl⟩
abbrev main_v77 : Ref sig .tc := ⟨.hbm, 168, rfl⟩
abbrev main_v78 : Ref sig .tc := ⟨.hbm, 169, rfl⟩
abbrev main_v79 : Ref sig .tc := ⟨.hbm, 170, rfl⟩
abbrev main_v80 : Ref sig .tc := ⟨.hbm, 171, rfl⟩
abbrev main_v81 : Ref sig .tc := ⟨.hbm, 172, rfl⟩
abbrev main_v82 : Ref sig .tc := ⟨.hbm, 173, rfl⟩
abbrev main_v83 : Ref sig .tc := ⟨.hbm, 174, rfl⟩
abbrev main_v84 : Ref sig .tc := ⟨.hbm, 175, rfl⟩
abbrev main_v85 : Ref sig .tc := ⟨.hbm, 176, rfl⟩
abbrev main_v86 : Ref sig .tc := ⟨.hbm, 177, rfl⟩
abbrev main_v87 : Ref sig .tc := ⟨.hbm, 178, rfl⟩
abbrev main_v88 : Ref sig .tc := ⟨.hbm, 179, rfl⟩
abbrev main_v89 : Ref sig .tc := ⟨.hbm, 180, rfl⟩
abbrev main_v90 : Ref sig .tc := ⟨.hbm, 181, rfl⟩
abbrev main_v91 : Ref sig .tc := ⟨.hbm, 182, rfl⟩
abbrev main_v92 : Ref sig .tc := ⟨.hbm, 183, rfl⟩
abbrev main_v93 : Ref sig .tc := ⟨.hbm, 184, rfl⟩
abbrev main_v94 : Ref sig .tc := ⟨.hbm, 185, rfl⟩
abbrev main_v95 : Ref sig .tc := ⟨.hbm, 186, rfl⟩
abbrev main_v96 : Ref sig .tc := ⟨.hbm, 187, rfl⟩
abbrev main_v97 : Ref sig .tc := ⟨.hbm, 188, rfl⟩
abbrev main_v98 : Ref sig .tc := ⟨.hbm, 189, rfl⟩
abbrev main_v99 : Ref sig .tc := ⟨.hbm, 190, rfl⟩
abbrev main_v100 : Ref sig .tc := ⟨.hbm, 191, rfl⟩
abbrev main_v101 : Ref sig .tc := ⟨.hbm, 192, rfl⟩
abbrev main_v102 : Ref sig .tc := ⟨.hbm, 193, rfl⟩
abbrev main_v103 : Ref sig .tc := ⟨.hbm, 194, rfl⟩
abbrev main_v104 : Ref sig .tc := ⟨.hbm, 195, rfl⟩
abbrev main_v105 : Ref sig .tc := ⟨.hbm, 196, rfl⟩
abbrev main_v106 : Ref sig .tc := ⟨.hbm, 197, rfl⟩
abbrev main_v107 : Ref sig .tc := ⟨.hbm, 198, rfl⟩
abbrev main_v108 : Ref sig .tc := ⟨.hbm, 199, rfl⟩
abbrev main_v109 : Ref sig .tc := ⟨.hbm, 200, rfl⟩
abbrev main_v110 : Ref sig .tc := ⟨.hbm, 201, rfl⟩
abbrev main_v111 : Ref sig .tc := ⟨.hbm, 202, rfl⟩
abbrev main_v112 : Ref sig .tc := ⟨.hbm, 203, rfl⟩
abbrev main_v113 : Ref sig .tc := ⟨.hbm, 204, rfl⟩
abbrev main_v114 : Ref sig .tc := ⟨.hbm, 205, rfl⟩
abbrev main_v115 : Ref sig .tc := ⟨.hbm, 206, rfl⟩
abbrev main_v116 : Ref sig .tc := ⟨.hbm, 207, rfl⟩
abbrev main_v117 : Ref sig .tc := ⟨.hbm, 208, rfl⟩
abbrev main_v118 : Ref sig .tc := ⟨.hbm, 209, rfl⟩
abbrev main_v119 : Ref sig .tc := ⟨.hbm, 210, rfl⟩
abbrev main_v120 : Ref sig .tc := ⟨.hbm, 211, rfl⟩
abbrev main_v121 : Ref sig .tc := ⟨.hbm, 212, rfl⟩
abbrev main_v122 : Ref sig .tc := ⟨.hbm, 213, rfl⟩
abbrev main_v123 : Ref sig .tc := ⟨.hbm, 214, rfl⟩
abbrev main_v124 : Ref sig .tc := ⟨.hbm, 215, rfl⟩
abbrev main_v125 : Ref sig .tc := ⟨.hbm, 216, rfl⟩
abbrev main_v126 : Ref sig .tc := ⟨.hbm, 217, rfl⟩
abbrev main_v127 : Ref sig .tc := ⟨.hbm, 218, rfl⟩
abbrev main_v128 : Ref sig .tc := ⟨.hbm, 219, rfl⟩
abbrev main_v129 : Ref sig .tc := ⟨.hbm, 220, rfl⟩
abbrev main_v130 : Ref sig .tc := ⟨.hbm, 221, rfl⟩
abbrev main_v131 : Ref sig .tc := ⟨.hbm, 222, rfl⟩
abbrev main_v132 : Ref sig .tc := ⟨.hbm, 223, rfl⟩
abbrev main_v133 : Ref sig .tc := ⟨.hbm, 224, rfl⟩
abbrev main_v134 : Ref sig .tc := ⟨.hbm, 225, rfl⟩
abbrev main_v135 : Ref sig .tc := ⟨.hbm, 226, rfl⟩
abbrev main_v136 : Ref sig .tc := ⟨.hbm, 227, rfl⟩
abbrev main_cst_8 : Ref sig .tc := ⟨.hbm, 228, rfl⟩
abbrev main_v137 : Ref sig .tc := ⟨.hbm, 229, rfl⟩
abbrev main_v138 : Ref sig .tc := ⟨.hbm, 230, rfl⟩
abbrev main_v139 : Ref sig .tc := ⟨.hbm, 231, rfl⟩
abbrev main_v140 : Ref sig .tc := ⟨.hbm, 232, rfl⟩
abbrev main_v141 : Ref sig .tc := ⟨.hbm, 233, rfl⟩
abbrev main_v142 : Ref sig .tc := ⟨.hbm, 234, rfl⟩
abbrev main_v143 : Ref sig .tc := ⟨.hbm, 235, rfl⟩
abbrev main_v144 : Ref sig .tc := ⟨.hbm, 236, rfl⟩
abbrev main_v145 : Ref sig .tc := ⟨.hbm, 237, rfl⟩
abbrev main_v146 : Ref sig .tc := ⟨.hbm, 238, rfl⟩
abbrev main_v147 : Ref sig .tc := ⟨.hbm, 239, rfl⟩
abbrev main_v148 : Ref sig .tc := ⟨.hbm, 240, rfl⟩
abbrev main_call8_cst : Ref sig .tc := ⟨.hbm, 241, rfl⟩
abbrev main_call8_v0 : Ref sig .tc := ⟨.hbm, 242, rfl⟩
abbrev main_v149 : Ref sig .tc := ⟨.hbm, 243, rfl⟩
abbrev main_v150 : Ref sig .tc := ⟨.hbm, 244, rfl⟩
abbrev main_cst_9 : Ref sig .tc := ⟨.hbm, 245, rfl⟩
abbrev main_v151 : Ref sig .tc := ⟨.hbm, 246, rfl⟩
abbrev main_cst_10 : Ref sig .tc := ⟨.hbm, 247, rfl⟩
abbrev main_v152 : Ref sig .tc := ⟨.hbm, 248, rfl⟩
abbrev main_cst_11 : Ref sig .tc := ⟨.hbm, 249, rfl⟩
abbrev main_v153 : Ref sig .tc := ⟨.hbm, 250, rfl⟩
abbrev main_v154 : Ref sig .tc := ⟨.hbm, 251, rfl⟩
abbrev main_v155 : Ref sig .tc := ⟨.hbm, 252, rfl⟩
abbrev main_v156 : Ref sig .tc := ⟨.hbm, 253, rfl⟩
abbrev main_v157 : Ref sig .tc := ⟨.hbm, 254, rfl⟩
abbrev main_v158 : Ref sig .tc := ⟨.hbm, 255, rfl⟩
abbrev main_v159 : Ref sig .tc := ⟨.hbm, 256, rfl⟩
abbrev main_v160 : Ref sig .tc := ⟨.hbm, 257, rfl⟩
abbrev main_v161 : Ref sig .tc := ⟨.hbm, 258, rfl⟩
abbrev main_v162 : Ref sig .tc := ⟨.hbm, 259, rfl⟩
abbrev main_v163 : Ref sig .tc := ⟨.hbm, 260, rfl⟩
abbrev main_cst_12 : Ref sig .tc := ⟨.hbm, 261, rfl⟩
abbrev main_v164 : Ref sig .tc := ⟨.hbm, 262, rfl⟩
abbrev main_v165 : Ref sig .tc := ⟨.hbm, 263, rfl⟩
abbrev main_cst_13 : Ref sig .tc := ⟨.hbm, 264, rfl⟩
abbrev main_v166 : Ref sig .tc := ⟨.hbm, 265, rfl⟩
abbrev main_v167 : Ref sig .tc := ⟨.hbm, 266, rfl⟩
abbrev main_v168 : Ref sig .tc := ⟨.hbm, 267, rfl⟩
abbrev main_cst_14 : Ref sig .tc := ⟨.hbm, 268, rfl⟩
abbrev main_v169 : Ref sig .tc := ⟨.hbm, 269, rfl⟩
abbrev main_v170 : Ref sig .tc := ⟨.hbm, 270, rfl⟩
abbrev main_v171 : Ref sig .tc := ⟨.hbm, 271, rfl⟩
abbrev main_v172 : Ref sig .tc := ⟨.hbm, 272, rfl⟩
abbrev main_v173 : Ref sig .tc := ⟨.hbm, 273, rfl⟩
abbrev main_v174 : Ref sig .tc := ⟨.hbm, 274, rfl⟩

abbrev nD : Nat := 1
abbrev τ : Topo := Topo.v7x

variable {F : FTy → Type} [FloatOps F]

abbrev main_while0_count : Scf.Loop 32 := ⟨0#32, 4096#32, 1#32⟩
-- ==== Proof.RI.Frame.lean ====
/- The reference's frame: every execution ends, the argument arrays hold what they held, and every counter is zero. -/
module

public import proofs.«01_k».proof.Proof.Gen.ReferenceIdeal.Run
public import Idealize.ShloMosaic.Lib.Quiescent

@[expose] public section

set_option maxRecDepth 16384

noncomputable section

namespace Cert.Proof.RI

open Idealize.ShloMosaic Idealize.ShloMosaic.TcCoe Idealize.ShloMosaic.StableHlo Idealize.SL.Sem
open Cert.ReferenceIdeal Cert.ReferenceIdeal.Gen Cert.ReferenceIdeal.Value

variable {F : FTy → Type} [FloatOps F]

/-- One trip leaves a buffer that neither the condition nor the body writes as it was. -/
theorem trip_keeps (b : Ref sig .tc) (hc : b ∉ condOps_W) (h0 : b ∉ while0Ops0_W) (h1 : b ∉ while0Ops0_1_W)
    (h2 : b ∉ while0Ops0_2_W) (h3 : b ∉ while0Ops0_3_W) (h4 : b ∉ while0Ops0_4_W) (h5 : b ∉ while0Ops0_5_W)
    (h6 : b ∉ while0Ops0_6_W) (V : Valuation τ sig (Elt F)) :
    afterL bodyI (after condOps V) (Proc.devRef .tc b) = V (Proc.devRef .tc b) := by
  simp only [afterL_cons, afterL_nil]
  rw [after_of_writes_sub _ _ while0Ops0_6_writes (by simpa using h6), after_of_writes_sub _ _ while0Ops0_5_writes (by simpa using h5),
    after_of_writes_sub _ _ while0Ops0_4_writes (by simpa using h4), after_of_writes_sub _ _ while0Ops0_3_writes (by simpa using h3),
    after_of_writes_sub _ _ while0Ops0_2_writes (by simpa using h2), after_of_writes_sub _ _ while0Ops0_1_writes (by simpa using h1),
    after_of_writes_sub _ _ while0Ops0_writes (by simpa using h0), after_of_writes_sub _ _ condOps_writes (by simpa using hc)]

/-- What `hostOps0_5` writes, in order. -/
abbrev post5_W : List (Ref sig .tc) := [main_v57, main_v58, main_v59, main_v60, main_v61, main_v62, main_v63, main_cst_4, main_v64, main_v65, main_cst_5, main_v66, main_v67, main_v68, main_v69, main_v70, main_v71, main_v72, main_v73, main_v74, main_c_6]
theorem post5_writes : (hostOps0_5 : List (HloOp τ sig (Elt F))).Forall fun op => op.writes ⊆ (post5_W.map (Proc.devRef (τ := τ) .tc)).toFinset :=
  StableHlo.forall_writes_sub_of_map rfl

/-- What `hostOps0_6` writes, in order. -/
abbrev post6_W : List (Ref sig .tc) := [main_call7_v0, main_v75]
theorem post6_writes : (hostOps0_6 : List (HloOp τ sig (Elt F))).Forall fun op => op.writes ⊆ (post6_W.map (Proc.devRef (τ := τ) .tc)).toFinset :=
  StableHlo.forall_writes_sub_of_map rfl

/-- What `hostOps0_7` writes, in order. -/
abbrev post7_W : List (Ref sig .tc) := [main_cst_7, main_v76, main_v77, main_v78, main_v79, main_v80, main_v81, main_v82, main_v83, main_v84, main_v85, main_v86, main_v87, main_v88, main_v89, main_v90, main_v91, main_v92, main_v93, main_v94, main_v95, main_v96, main_v97, main_v98, main_v99, main_v100, main_v101, main_v102, main_v103, main_v104, main_v105, main_v106, main_v107, main_v108, main_v109, main_v110, main_v111, main_v112, main_v113, main_v114, main_v115, main_v116, main_v117, main_v118, main_v119, main_v120, main_v121, main_v122, main_v123, main_v124, main_v125, main_v126, main_v127, main_v128, main_v129, main_v130, main_v131, main_v132, main_v133, main_v134, main_v135, main_v136, main_cst_8, main_v137, main_v138, main_v139, main_v140, main_v141, main_v142, main_v143, main_v144, main_v145, main_v146, main_v147, main_v148]
theorem post7_writes : (hostOps0_7 : List (HloOp τ sig (Elt F))).Forall fun op => op.writes ⊆ (post7_W.map (Proc.devRef (τ := τ) .tc)).toFinset :=
  StableHlo.forall_writes_sub_of_map rfl

/-- What `hostOps0_8` writes, in order. -/
abbrev post8_W : List (Ref sig .tc) := [main_call8_cst, main_call8_v0, main_v149]
theorem post8_writes : (hostOps0_8 : List (HloOp τ sig (Elt F))).Forall fun op => op.writes ⊆ (post8_W.map (Proc.devRef (τ := τ) .tc)).toFinset :=
  StableHlo.forall_writes_sub_of_map rfl

/-- What `hostOps0_9` writes, in order. -/
abbrev post9_W : List (Ref sig .tc) := [main_v150, main_cst_9, main_v151, main_cst_10, main_v152, main_cst_11, main_v153, main_v154, main_v155, main_v156, main_v157, main_v158, main_v159, main_v160, main_v161, main_v162, main_v163, main_cst_12, main_v164, main_v165, main_cst_13, main_v166, main_v167, main_v168, main_cst_14, main_v169, main_v170, main_v171, main_v172, main_v173, main_v174]
theorem post9_writes : (hostOps0_9 : List (HloOp τ sig (Elt F))).Forall fun op => op.writes ⊆ (post9_W.map (Proc.devRef (τ := τ) .tc)).toFinset :=
  StableHlo.forall_writes_sub_of_map rfl

/-- Everything the program writes. -/
abbrev written : List (Ref sig .tc) :=
  hostOps0_W ++ hostOps0_1_W ++ hostOps0_2_W ++ hostOps0_3_W ++ hostOps0_4_W ++ condOps_W ++ while0Ops0_W ++ while0Ops0_1_W
    ++ while0Ops0_2_W ++ while0Ops0_3_W ++ while0Ops0_4_W ++ while0Ops0_5_W ++ while0Ops0_6_W ++ post5_W ++ post6_W ++ post7_W
    ++ post8_W ++ post9_W

variable (m : (ℓ : Loc nD τ sig) → Buf (Elt F) ℓ) (ρ : Dev nD → PrngReg) (c : Dev nD)

/-- A buffer no trip writes is before every trip as it was at the loop's entry. -/
theorem atK_keeps (b : Ref sig .tc) (hc : b ∉ condOps_W) (h0 : b ∉ while0Ops0_W) (h1 : b ∉ while0Ops0_1_W)
    (h2 : b ∉ while0Ops0_2_W) (h3 : b ∉ while0Ops0_3_W) (h4 : b ∉ while0Ops0_4_W) (h5 : b ∉ while0Ops0_5_W)
    (h6 : b ∉ while0Ops0_6_W) : ∀ k, atK m k c (Proc.devRef .tc b) = entryContents preI m c (Proc.devRef .tc b)
  | 0 => rfl
  | k + 1 => (trip_keeps b hc h0 h1 h2 h3 h4 h5 h6 _).trans (atK_keeps b hc h0 h1 h2 h3 h4 h5 h6 k)

/-- A buffer nothing writes ends as it began. -/
theorem final_keeps (b : Ref sig .tc) (h : b ∉ written) :
    finalContents condOps preI bodyI postI 4096 m c (Proc.devRef .tc b) = m ((c.tc : Thread nD τ).loc b) := by
  simp only [written, List.mem_append, not_or] at h
  obtain ⟨⟨⟨⟨⟨⟨⟨⟨⟨⟨⟨⟨⟨⟨⟨⟨⟨a0, a1⟩, a2⟩, a3⟩, a4⟩, hc⟩, h0⟩, h1⟩, h2⟩, h3⟩, h4⟩, h5⟩, h6⟩, p5⟩, p6⟩, p7⟩, p8⟩, p9⟩ := h
  show afterL postI (after condOps (atK m 4096 c)) (Proc.devRef .tc b) = _
  simp only [afterL_cons, afterL_nil]
  rw [after_of_writes_sub _ _ post9_writes p9, after_of_writes_sub _ _ post8_writes p8, after_of_writes_sub _ _ post7_writes p7,
    after_of_writes_sub _ _ post6_writes p6, after_of_writes_sub _ _ post5_writes p5, after_of_writes_sub _ _ condOps_writes hc,
    atK_keeps m c b hc h0 h1 h2 h3 h4 h5 h6]
  simp only [entryContents, afterL_cons, afterL_nil]
  rw [after_of_writes_sub _ _ hostOps0_4_writes a4, after_of_writes_sub _ _ hostOps0_3_writes a3,
    after_of_writes_sub _ _ hostOps0_2_writes a2, after_of_writes_sub _ _ hostOps0_1_writes a1,
    after_of_writes_sub _ _ hostOps0_writes a0]

/-- The reference's run with its counters: every buffer of the program ends at the fold of its operations. -/
theorem run_main : θ_run (defs (F := F)) (onTc (τ := τ) (main (F := F))) ⟨m, fun _ => 0, ρ⟩
    (fun r => (∀ (c : Dev nD) (b : Ref sig .tc), (Proc.devRef .tc b : DevRef τ sig).isScoped = false →
      r.2.mem ((c.tc : Thread nD τ).loc b) = finalContents condOps preI bodyI postI 4096 m c (Proc.devRef .tc b))
      ∧ r.2.sem = fun _ => 0) :=
  (θ_run _ _ _).mono (fun r h => ⟨h, sem_eq_zero_of_no_sems (by decide) r.2⟩) (run_fold m ρ)

/-- Every argument array ends unchanged and every counter at zero. -/
theorem frame : θ_run (defs (F := F)) (onTc (τ := τ) (main (F := F))) ⟨m, fun _ => 0, ρ⟩
    (fun r => (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17))
      ∧ r.2.sem = fun _ => 0) :=
  (θ_run _ _ _).mono (fun r h => ⟨fun c => ⟨(h.1 c main_arg0 rfl).trans (final_keeps m c main_arg0 (by decide +kernel)),
      (h.1 c main_arg1 rfl).trans (final_keeps m c main_arg1 (by decide +kernel)),
      (h.1 c main_arg2 rfl).trans (final_keeps m c main_arg2 (by decide +kernel)),
      (h.1 c main_arg3 rfl).trans (final_keeps m c main_arg3 (by decide +kernel)),
      (h.1 c main_arg4 rfl).trans (final_keeps m c main_arg4 (by decide +kernel)),
      (h.1 c main_arg5 rfl).trans (final_keeps m c main_arg5 (by decide +kernel)),
      (h.1 c main_arg6 rfl).trans (final_keeps m c main_arg6 (by decide +kernel)),
      (h.1 c main_arg7 rfl).trans (final_keeps m c main_arg7 (by decide +kernel)),
      (h.1 c main_arg8 rfl).trans (final_keeps m c main_arg8 (by decide +kernel)),
      (h.1 c main_arg9 rfl).trans (final_keeps m c main_arg9 (by decide +kernel)),
      (h.1 c main_arg10 rfl).trans (final_keeps m c main_arg10 (by decide +kernel)),
      (h.1 c main_arg11 rfl).trans (final_keeps m c main_arg11 (by decide +kernel)),
      (h.1 c main_arg12 rfl).trans (final_keeps m c main_arg12 (by decide +kernel)),
      (h.1 c main_arg13 rfl).trans (final_keeps m c main_arg13 (by decide +kernel)),
      (h.1 c main_arg14 rfl).trans (final_keeps m c main_arg14 (by decide +kernel)),
      (h.1 c main_arg15 rfl).trans (final_keeps m c main_arg15 (by decide +kernel)),
      (h.1 c main_arg16 rfl).trans (final_keeps m c main_arg16 (by decide +kernel)),
      (h.1 c main_arg17 rfl).trans (final_keeps m c main_arg17 (by decide +kernel))⟩, h.2⟩) (run_main m ρ)

end Cert.Proof.RI

end
-- ==== Proof.Mamba.Scan.lean ====
/- The loop of the kernel that does the state space recurrence, as one program text: what one time
   step of one batch element does, iterated over the steps of a trip. -/
module

public import Idealize.ShloMosaic.Lib.Pipeline
public import Idealize.ShloMosaic.Lib.Scf
public import Idealize.ShloMosaic.Lib.Sig
public import Idealize.ShloMosaic.PureOps

@[expose] public section

set_option maxRecDepth 16384

noncomputable section

namespace Mamba

open Idealize.ShloMosaic Idealize.SL.Sem

/-! ## Shapes -/

abbrev T128 : Shape := ⟨1, ![128]⟩
abbrev T1x128 : Shape := ⟨2, ![1, 128]⟩
abbrev T16x1 : Shape := ⟨2, ![16, 1]⟩
abbrev T16x128 : Shape := ⟨2, ![16, 128]⟩
abbrev T32x128 : Shape := ⟨2, ![32, 128]⟩
abbrev T128x128 : Shape := ⟨2, ![128, 128]⟩
abbrev T16x1x128 : Shape := ⟨3, ![16, 1, 128]⟩
abbrev T1x16x128 : Shape := ⟨3, ![1, 16, 128]⟩
abbrev T16x16x128 : Shape := ⟨3, ![16, 16, 128]⟩
abbrev T16384x128 : Shape := ⟨2, ![16384, 128]⟩
abbrev T32x16384 : Shape := ⟨2, ![32, 16384]⟩

/-! ## The trip's rows -/

/-- The loop's bounds and step. -/
@[reducible] def trips : Scf.Loop 32 := ⟨0#32, Scalar.addi 0#32 32#32, 1#32⟩

/-- The first time step of trip `k`. -/
def t0 (k : Fin trips.trips) : BitVec 32 := Scalar.muli (Scf.iv (0#32 : BitVec 32) 1#32 k) 128#32

/-- Where trip `k`'s rows of a batch element start, in the arrays whose rows are (batch, time). -/
def offRows (k : Fin trips.trips) (b : BitVec 32) : Fin 2 → Nat :=
  ![(Scalar.indexCast (Scalar.addi b (t0 k)) : Index).toNat, 0]

/-- Where trip `k`'s columns of a batch element start, in the array whose columns are (batch, time). -/
def offCols (k : Fin trips.trips) (b : BitVec 32) : Fin 2 → Nat :=
  ![0, (Scalar.indexCast (Scalar.addi b (t0 k)) : Index).toNat]

/-- The row of a batch element's time step `j` of trip `k`. -/
def offRow (k : Fin trips.trips) (b j : BitVec 32) : Fin 2 → Nat :=
  ![(Scalar.indexCast (Scalar.addi (Scalar.addi b (t0 k)) j) : Index).toNat, 0]

theorem trips_lt (k : Fin trips.trips) : k.val < 32 := k.isLt

theorem t0_toNat (k : Fin trips.trips) : (t0 k).toNat = 128 * k.val := by
  have h : ∀ k : Fin 32, (t0 k).toNat = 128 * k.val := by decide +kernel
  exact h k

theorem offRows_eq (k : Fin trips.trips) (b : Fin 4) :
    offRows k (BitVec.ofNat 32 (4096 * b.val)) = ![4096 * b.val + 128 * k.val, 0] := by
  have h : ∀ (k : Fin 32) (b : Fin 4),
      offRows k (BitVec.ofNat 32 (4096 * b.val)) = ![4096 * b.val + 128 * k.val, 0] := by decide +kernel
  exact h k b

theorem offCols_eq (k : Fin trips.trips) (b : Fin 4) :
    offCols k (BitVec.ofNat 32 (4096 * b.val)) = ![0, 4096 * b.val + 128 * k.val] := by
  have h : ∀ (k : Fin 32) (b : Fin 4),
      offCols k (BitVec.ofNat 32 (4096 * b.val)) = ![0, 4096 * b.val + 128 * k.val] := by decide +kernel
  exact h k b

theorem offRow_eq (k : Fin trips.trips) (b : Fin 4) (j : Fin 128) :
    offRow k (BitVec.ofNat 32 (4096 * b.val)) (BitVec.ofNat 32 j.val)
      = ![4096 * b.val + 128 * k.val + j.val, 0] := by
  have h : ∀ (k : Fin 32) (b : Fin 4) (j : Fin 128),
      offRow k (BitVec.ofNat 32 (4096 * b.val)) (BitVec.ofNat 32 j.val)
        = ![4096 * b.val + 128 * k.val + j.val, 0] := by decide +kernel
  exact h k b j

theorem offRows_inb (k : Fin trips.trips) (b : Fin 4) (a : Fin 2) :
    offRows k (BitVec.ofNat 32 (4096 * b.val)) a + T128x128.size a ≤ T16384x128.size a := by
  have hk := trips_lt k
  rw [offRows_eq]
  match a with
  | ⟨0, _⟩ => show 4096 * b.val + 128 * k.val + 128 ≤ 16384; omega
  | ⟨1, _⟩ => show 0 + 128 ≤ 128; omega

theorem offCols_inb (k : Fin trips.trips) (b : Fin 4) (a : Fin 2) :
    offCols k (BitVec.ofNat 32 (4096 * b.val)) a + T32x128.size a ≤ T32x16384.size a := by
  have hk := trips_lt k
  rw [offCols_eq]
  match a with
  | ⟨0, _⟩ => show 0 + 32 ≤ 32; omega
  | ⟨1, _⟩ => show 4096 * b.val + 128 * k.val + 128 ≤ 16384; omega

theorem offRow_inb (k : Fin trips.trips) (b : Fin 4) (j : Fin 128) (a : Fin 2) :
    offRow k (BitVec.ofNat 32 (4096 * b.val)) (BitVec.ofNat 32 j.val) a + T1x128.size a ≤ T16384x128.size a := by
  have hk := trips_lt k
  rw [offRow_eq]
  match a with
  | ⟨0, _⟩ => show 4096 * b.val + 128 * k.val + j.val + 1 ≤ 16384; omega
  | ⟨1, _⟩ => show 0 + 128 ≤ 128; omega

/-! ## One time step's values -/

variable {F : FTy → Type} [FloatOps F]

theorem slices_jj (jj : Fin 8) : T128x128.Slices ![16 * jj.val, 0] T16x128 :=
  ⟨rfl, fun a => match a with
    | ⟨0, _⟩ => by show 16 * jj.val + 16 ≤ 128; omega
    | ⟨1, _⟩ => by show 0 + 128 ≤ 128; omega⟩

theorem slices_row (j : Fin 128) : T128x128.Slices ![j.val, 0] T1x128 :=
  ⟨rfl, fun a => match a with
    | ⟨0, _⟩ => by show j.val + 1 ≤ 128; omega
    | ⟨1, _⟩ => by show 0 + 128 ≤ 128; omega⟩

theorem slices_bcol (j : Fin 128) : T32x128.Slices ![0, j.val] T16x1 :=
  ⟨rfl, fun a => match a with
    | ⟨0, _⟩ => by show 0 + 16 ≤ 32; omega
    | ⟨1, _⟩ => by show j.val + 1 ≤ 128; omega⟩

theorem slices_ccol (j : Fin 128) : T32x128.Slices ![16, j.val] T16x1 :=
  ⟨rfl, fun a => match a with
    | ⟨0, _⟩ => by show 16 + 16 ≤ 32; omega
    | ⟨1, _⟩ => by show j.val + 1 ≤ 128; omega⟩

theorem slices_dA (j2 : Fin 16) : T16x16x128.Slices ![j2.val, 0, 0] T1x16x128 :=
  ⟨rfl, fun a => match a with
    | ⟨0, _⟩ => by show j2.val + 1 ≤ 16; omega
    | ⟨1, _⟩ => by show 0 + 16 ≤ 16; omega
    | ⟨2, _⟩ => by show 0 + 128 ≤ 128; omega⟩

/-- The decays of sixteen time steps: `exp(dt ⊗ A)`. -/
def decay (at96 : FVec F T16x128 .f32) (dt : Vec F T128x128 .f32) (jj : Fin 8) : FVec F T16x16x128 .f32 :=
  exp (mulf
    (broadcastTo T16x16x128 (shapeCast T16x1x128 (extractStridedSlice T16x128 ![16 * jj.val, 0] dt (slices_jj jj))
      (by decide : T16x128.ShapeCasts T16x1x128)) (by decide : T16x1x128.Broadcasts T16x16x128))
    (broadcastTo T16x16x128 (shapeCast T1x16x128 at96 (by decide : T16x128.ShapeCasts T1x16x128))
      (by decide : T1x16x128.Broadcasts T16x16x128)))

/-- The state after a time step: the decayed state plus the input's share. -/
def stepH (dA : FVec F T16x16x128 .f32) (du : FVec F T128x128 .f32) (bc : Vec F T32x128 .f32)
    (j : Fin 128) (j2 : Fin 16) (h : FVec F T16x128 .f32) : FVec F T16x128 .f32 :=
  addf
    (mulf (shapeCast T16x128 (extractStridedSlice T1x16x128 ![j2.val, 0, 0] dA (slices_dA j2))
      (by decide : T1x16x128.ShapeCasts T16x128)) h)
    (mulf (broadcastTo T16x128 (extractStridedSlice T1x128 ![j.val, 0] du (slices_row j))
        (by decide : T1x128.Broadcasts T16x128))
      (broadcastTo T16x128 (shapeCast T16x1 (extractStridedSlice T16x1 ![0, j.val] bc (slices_bcol j))
        (by decide : T16x1.ShapeCasts T16x1)) (by decide : T16x1.Broadcasts T16x128)))

/-- The row that a time step writes: the state against the readout column, summed over the state's axis. -/
def stepY (bc : Vec F T32x128 .f32) (j : Fin 128) (h : FVec F T16x128 .f32) : FVec F T1x128 .f32 :=
  shapeCast T1x128
    (shapeCast T1x128
      (multiReduction .add [0] T128
        (mulf h (broadcastTo T16x128 (shapeCast T16x1 (extractStridedSlice T16x1 ![16, j.val] bc (slices_ccol j))
          (by decide : T16x1.ShapeCasts T16x1)) (by decide : T16x1.Broadcasts T16x128)))
        0x00000000#32 (by decide : T16x128.Reduces [0] T128) (.inl rfl) rfl)
      (by decide : T128.ShapeCasts T1x128))
    (by decide : T1x128.ShapeCasts T1x128)

/-! ## The program -/

variable {nD : Nat} {τ : Topo} {sig : RefSig} {Λ : Labels}

theorem numel_1x128 : 0 < T1x128.numel := by decide
theorem numel_128x128 : 0 < T128x128.numel := by decide
theorem numel_32x128 : 0 < T32x128.numel := by decide

/-- The states of the four batch elements, as the loop carries them. -/
abbrev States (F : FTy → Type) : Type :=
  FVec F T16x128 .f32 × FVec F T16x128 .f32 × FVec F T16x128 .f32 × FVec F T16x128 .f32

/-- The state of a batch element. -/
def States.get (hs : States F) : Fin 4 → FVec F T16x128 .f32 := ![hs.1, hs.2.1, hs.2.2.1, hs.2.2.2]

/-- A batch element's state after the first `n` time steps of a trip. -/
def after (at96 : FVec F T16x128 .f32) (dt : Vec F T128x128 .f32) (du : FVec F T128x128 .f32)
    (bc : Vec F T32x128 .f32) (h : FVec F T16x128 .f32) : (n : Nat) → n ≤ 128 → FVec F T16x128 .f32
  | 0, _ => h
  | n + 1, hn => stepH (decay at96 dt ⟨n / 16, by omega⟩) du bc ⟨n, hn⟩ ⟨n % 16, by omega⟩
      (after at96 dt du bc h n (by omega))

/-- Looking at the trip's rows of a batch element. -/
def getRows (m : Memref sig .tc .vmem T16384x128 .f32) (k : Fin trips.trips) (b : Fin 4) :
    Prog (TpuEff nD τ sig (Elt F) Λ .tc) (Vec F T128x128 .f32) :=
  Prog.lift (.load m (Rect.unit (s := T16384x128) (offRows k (BitVec.ofNat 32 (4096 * b.val))) T128x128.size
    (offRows_inb k b)).toLoadRect (View.loadsAt_vmem numel_128x128))

/-- Looking at the trip's columns of a batch element. -/
def getCols (m : Memref sig .tc .vmem T32x16384 .f32) (k : Fin trips.trips) (b : Fin 4) :
    Prog (TpuEff nD τ sig (Elt F) Λ .tc) (Vec F T32x128 .f32) :=
  Prog.lift (.load m (Rect.unit (s := T32x16384) (offCols k (BitVec.ofNat 32 (4096 * b.val))) T32x128.size
    (offCols_inb k b)).toLoadRect (View.loadsAt_vmem numel_32x128))

/-- One time step of one batch element: the row is looked at, then overwritten by the step's output. -/
def putRow (ys : Memref sig .tc .vmem T16384x128 .f32)
    (k : Fin trips.trips) (b : Fin 4) (j : Fin 128) (y : FVec F T1x128 .f32) :
    Prog (TpuEff nD τ sig (Elt F) Λ .tc) PUnit :=
  (Prog.lift (.load ys (Rect.unit (s := T16384x128)
    (offRow k (BitVec.ofNat 32 (4096 * b.val)) (BitVec.ofNat 32 j.val)) T1x128.size (offRow_inb k b j)).toLoadRect
    (View.loadsAt_vmem numel_1x128))).bind fun _ =>
  Prog.lift (.store ys (Rect.unit (s := T16384x128)
    (offRow k (BitVec.ofNat 32 (4096 * b.val)) (BitVec.ofNat 32 j.val)) T1x128.size (offRow_inb k b j))
    y Finset.univ (View.stores_vmem_bits_univ numel_1x128 rfl) (.inl rfl))

/-- The rows of the last `m` time steps of a trip, written in order of time, and at each time in order
    of the batch; `y b j` is the row of batch element `b`'s time step `j`. -/
def putRows (ys : Memref sig .tc .vmem T16384x128 .f32) (k : Fin trips.trips)
    (y : Fin 4 → Fin 128 → FVec F T1x128 .f32) :
    (m : Nat) → m ≤ 128 → Prog (TpuEff nD τ sig (Elt F) Λ .tc) PUnit
  | 0, _ => .ret ⟨⟩
  | m + 1, hm =>
    (putRow ys k 0 ⟨128 - (m + 1), by omega⟩ (y 0 ⟨128 - (m + 1), by omega⟩)).bind fun _ =>
    (putRow ys k 1 ⟨128 - (m + 1), by omega⟩ (y 1 ⟨128 - (m + 1), by omega⟩)).bind fun _ =>
    (putRow ys k 2 ⟨128 - (m + 1), by omega⟩ (y 2 ⟨128 - (m + 1), by omega⟩)).bind fun _ =>
    (putRow ys k 3 ⟨128 - (m + 1), by omega⟩ (y 3 ⟨128 - (m + 1), by omega⟩)).bind fun _ =>
    putRows ys k y m (by omega)

/-- A trip of the loop once its data have been looked at: `d b`, `u b`, `cs b` are the steps, the inputs and
    the columns of batch element `b`. The trip's rows are overwritten by the outputs. -/
def tripTail (ys : Memref sig .tc .vmem T16384x128 .f32) (at96 : FVec F T16x128 .f32) (k : Fin trips.trips)
    (hs : States F) (d u : Fin 4 → Vec F T128x128 .f32) (cs : Fin 4 → Vec F T32x128 .f32) :
    Prog (TpuEff nD τ sig (Elt F) Λ .tc) (States F) :=
  (putRows ys k (fun b j => stepY (cs b) j
    (after at96 (d b) (mulf (d b) (u b)) (cs b) (hs.get b) (j.val + 1) j.isLt)) 128 (by omega)).bind fun _ =>
  .ret (after at96 (d 0) (mulf (d 0) (u 0)) (cs 0) hs.1 128 (by omega),
    after at96 (d 1) (mulf (d 1) (u 1)) (cs 1) hs.2.1 128 (by omega),
    after at96 (d 2) (mulf (d 2) (u 2)) (cs 2) hs.2.2.1 128 (by omega),
    after at96 (d 3) (mulf (d 3) (u 3)) (cs 3) hs.2.2.2 128 (by omega))

/-- A trip of the loop: the steps' data of the four batch elements are looked at, then the trip's rows
    are overwritten by the outputs. -/
def trip (dts us : Memref sig .tc .vmem T16384x128 .f32) (bct : Memref sig .tc .vmem T32x16384 .f32)
    (at96 : FVec F T16x128 .f32) (k : Fin trips.trips) (hs : States F) :
    Prog (TpuEff nD τ sig (Elt F) Λ .tc) (States F) :=
  (getRows dts k 0).bind fun d0 => (getRows dts k 1).bind fun d1 =>
  (getRows dts k 2).bind fun d2 => (getRows dts k 3).bind fun d3 =>
  (getRows us k 0).bind fun u0 => (getRows us k 1).bind fun u1 =>
  (getRows us k 2).bind fun u2 => (getRows us k 3).bind fun u3 =>
  (getCols bct k 0).bind fun b0 => (getCols bct k 1).bind fun b1 =>
  (getCols bct k 2).bind fun b2 => (getCols bct k 3).bind fun b3 =>
  tripTail dts at96 k hs ![d0, d1, d2, d3] ![u0, u1, u2, u3] ![b0, b1, b2, b3]

end Mamba
-- ==== Proof.KI.Body.lean ====
/- One trip of the printed loop is the trip of the recurrence over the three scratch buffers. -/
module

public import proofs.«01_k».proof.Proof.Gen.KernelIdeal.Skeleton
public import proofs.«01_k».proof.Proof.Mamba.Scan
public import Idealize.ShloMosaic.Lib.Tactic
@[expose] public section
set_option maxRecDepth 16384
noncomputable section
namespace Cert.Proof.KI

open Cert.KernelIdeal Cert.KernelIdeal.Gen
open Idealize.ShloMosaic Idealize.ShloMosaic.TcCoe Idealize.SL.Sem
variable {F : FTy → Type} [FloatOps F]

/-- A trip of the printed loop is `Mamba.trip`, at the exponents the loop is entered with. -/
theorem body_eq (i : grid0.Coords) (arg1 : Memref sig .tc .vmem S4x4096x64 .f32) (harg1 : arg1.IsWhole) (arg2 : Memref sig .tc .vmem S256x64 .f32) (harg2 : arg2.IsWhole) (arg3 : Memref sig .tc .vmem S3x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S32x128 .f32) (harg7 : arg7.IsWhole) (arg8 : Memref sig .tc .vmem S16x128 .f32) (harg8 : arg8.IsWhole) (arg9 : Memref sig .tc .vmem S1x128 .f32) (harg9 : arg9.IsWhole) (arg10 : Memref sig .tc .vmem S64x128 .f32) (harg10 : arg10.IsWhole) (arg11 : Memref sig .tc .vmem S9x128x64 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S128x256 .f32) (harg14 : arg14.IsWhole) (arg15 : Memref sig .tc .vmem S1x128 .f32) (harg15 : arg15.IsWhole) (arg16 : Memref sig .tc .vmem S4x128x4096 .f32) (harg16 : arg16.IsWhole) (arg17 : Memref sig .tc .vmem S4x128x1024 .f32) (harg17 : arg17.IsWhole) (arg18 : Memref sig .tc .vmem S16384x128 .f32) (harg18 : arg18.IsWhole) (arg19 : Memref sig .tc .vmem S16384x128 .f32) (harg19 : arg19.IsWhole) (arg20 : Memref sig .tc .vmem S32x16384 .f32) (harg20 : arg20.IsWhole) (v6 : FVec F S16384x128 .f32) (v61 : FVec F S16384x128 .f32) (v82 : FVec F S16384x128 .f32) (v83 : Vec F S32x128 .f32) (v95 : Vec F S16x128 .f32) (k : Fin k0_t1_loop.trips) (hs : Mamba.States F) :
   k0_t1_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v6 v61 v82 v83 v95 k hs = Mamba.trip arg18 arg19 arg20 (k0_pay1438 v95) k hs := by
  sl_kernel_rfl
end Cert.Proof.KI
-- ==== Proof.Mamba.Trip.lean ====
/- What the loop of the recurrence leaves in memory: each trip overwrites its rows of the buffer of
   steps by the rows of outputs, and carries the states on. -/
module

public import proofs.«01_k».proof.Proof.Mamba.Scan
public import Idealize.ShloMosaic.Rules.Step
public import Idealize.ShloMosaic.Lib.Tactic
public import Idealize.ShloMosaic.Lib.Exec

@[expose] public section

set_option maxRecDepth 16384

noncomputable section

namespace Mamba

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
variable {nD : Nat} {τ : Topo} {sig : RefSig} {Λ : Labels}

/-! ## The contents, trip by trip -/

section Contents

variable {κ : Kind} {e : EltTy}

/-- The rectangle of one row. -/
abbrev rowRect (k : Fin trips.trips) (b : Fin 4) (j : Fin 128) : Rect T16384x128 :=
  Rect.unit (s := T16384x128) (offRow k (BitVec.ofNat 32 (4096 * b.val)) (BitVec.ofNat 32 j.val)) T1x128.size
    (offRow_inb k b j)

/-- The rectangle of a trip's rows of a batch element. -/
abbrev rowsRect (k : Fin trips.trips) (b : Fin 4) : Rect T16384x128 :=
  Rect.unit (s := T16384x128) (offRows k (BitVec.ofNat 32 (4096 * b.val))) T128x128.size (offRows_inb k b)

/-- The rectangle of a trip's columns of a batch element. -/
abbrev colsRect (k : Fin trips.trips) (b : Fin 4) : Rect T32x16384 :=
  Rect.unit (s := T32x16384) (offCols k (BitVec.ofNat 32 (4096 * b.val))) T32x128.size (offCols_inb k b)

variable (ys : Memref sig .tc .vmem T16384x128 .f32) (us : Memref sig .tc .vmem T16384x128 .f32)
  (bct : Memref sig .tc .vmem T32x16384 .f32)

/-- The buffer after a row is overwritten. -/
def rowBuf (k : Fin trips.trips) (b : Fin 4) (j : Fin 128) (y : FVec F T1x128 .f32)
    (f : ys.view.ty.Contents (Elt F)) : ys.view.ty.Contents (Elt F) :=
  (ys.access (rowRect k b j)).write (Elt F) f y Finset.univ

/-- The buffer after the four rows of a time step are overwritten. -/
def stepBuf (k : Fin trips.trips) (y : Fin 4 → Fin 128 → FVec F T1x128 .f32) (j : Fin 128)
    (f : ys.view.ty.Contents (Elt F)) : ys.view.ty.Contents (Elt F) :=
  rowBuf ys k 3 j (y 3 j) (rowBuf ys k 2 j (y 2 j) (rowBuf ys k 1 j (y 1 j) (rowBuf ys k 0 j (y 0 j) f)))

/-- The buffer after the rows of the last `m` time steps of a trip are overwritten. -/
def rowsBuf (k : Fin trips.trips) (y : Fin 4 → Fin 128 → FVec F T1x128 .f32) :
    (m : Nat) → m ≤ 128 → ys.view.ty.Contents (Elt F) → ys.view.ty.Contents (Elt F)
  | 0, _, f => f
  | m + 1, hm, f => rowsBuf k y m (by omega) (stepBuf ys k y ⟨128 - (m + 1), by omega⟩ f)

/-- The trip's steps of a batch element, read off the buffer. -/
def dtOf (f : ys.view.ty.Contents (Elt F)) (k : Fin trips.trips) (b : Fin 4) : Vec F T128x128 .f32 :=
  ys.view.readAt (Elt F) (rowsRect k b).toLoadRect f

/-- The trip's columns of a batch element, read off the buffer. -/
def bcOf (g : bct.view.ty.Contents (Elt F)) (k : Fin trips.trips) (b : Fin 4) : Vec F T32x128 .f32 :=
  bct.view.readAt (Elt F) (colsRect k b).toLoadRect g

/-- A batch element's state after `n` steps of trip `k`, from the state `h`. -/
def tripAfter (at96 : FVec F T16x128 .f32) (f : ys.view.ty.Contents (Elt F)) (fu : us.view.ty.Contents (Elt F))
    (fb : bct.view.ty.Contents (Elt F)) (k : Fin trips.trips) (b : Fin 4) (h : FVec F T16x128 .f32)
    (n : Nat) (hn : n ≤ 128) : FVec F T16x128 .f32 :=
  after at96 (dtOf ys f k b) (mulf (dtOf ys f k b) (dtOf us fu k b)) (bcOf bct fb k b) h n hn

/-- The rows that trip `k` writes. -/
def tripRows (at96 : FVec F T16x128 .f32) (f : ys.view.ty.Contents (Elt F)) (fu : us.view.ty.Contents (Elt F))
    (fb : bct.view.ty.Contents (Elt F)) (k : Fin trips.trips) (hs : States F) (b : Fin 4) (j : Fin 128) :
    FVec F T1x128 .f32 :=
  stepY (bcOf bct fb k b) j (tripAfter ys us bct at96 f fu fb k b (hs.get b) (j.val + 1) j.isLt)

/-- The states after trip `k`. -/
def tripStates (at96 : FVec F T16x128 .f32) (f : ys.view.ty.Contents (Elt F)) (fu : us.view.ty.Contents (Elt F))
    (fb : bct.view.ty.Contents (Elt F)) (k : Fin trips.trips) (hs : States F) : States F :=
  (tripAfter ys us bct at96 f fu fb k 0 hs.1 128 (by omega), tripAfter ys us bct at96 f fu fb k 1 hs.2.1 128 (by omega),
    tripAfter ys us bct at96 f fu fb k 2 hs.2.2.1 128 (by omega),
    tripAfter ys us bct at96 f fu fb k 3 hs.2.2.2 128 (by omega))

/-- The buffer of steps, and the states, before trip `k`, from the buffer `f` and the states `hs`. -/
def scan (at96 : FVec F T16x128 .f32) (fu : us.view.ty.Contents (Elt F)) (fb : bct.view.ty.Contents (Elt F))
    (f : ys.view.ty.Contents (Elt F)) (hs : States F) : Nat → ys.view.ty.Contents (Elt F) × States F
  | 0 => (f, hs)
  | k + 1 =>
    if hk : k < trips.trips then
      (rowsBuf ys ⟨k, hk⟩ (tripRows ys us bct at96 (scan at96 fu fb f hs k).1 fu fb ⟨k, hk⟩ (scan at96 fu fb f hs k).2)
          128 (by omega) (scan at96 fu fb f hs k).1,
        tripStates ys us bct at96 (scan at96 fu fb f hs k).1 fu fb ⟨k, hk⟩ (scan at96 fu fb f hs k).2)
    else scan at96 fu fb f hs k

/-- The contents and states after one more trip. -/
theorem scan_succ (at96 : FVec F T16x128 .f32) (fu : us.view.ty.Contents (Elt F)) (fb : bct.view.ty.Contents (Elt F))
    (f : ys.view.ty.Contents (Elt F)) (hs : States F) (k : Fin trips.trips) :
    scan ys us bct at96 fu fb f hs (k.val + 1)
      = (rowsBuf ys k (tripRows ys us bct at96 (scan ys us bct at96 fu fb f hs k.val).1 fu fb k
            (scan ys us bct at96 fu fb f hs k.val).2) 128 (by omega) (scan ys us bct at96 fu fb f hs k.val).1,
          tripStates ys us bct at96 (scan ys us bct at96 fu fb f hs k.val).1 fu fb k
            (scan ys us bct at96 fu fb f hs k.val).2) := by
  rw [scan, dif_pos k.isLt]

/-- The buffer of steps after `k` trips. -/
def scanBuf (at96 : FVec F T16x128 .f32) (fu : us.view.ty.Contents (Elt F)) (fb : bct.view.ty.Contents (Elt F))
    (f : ys.view.ty.Contents (Elt F)) (hs : States F) : Nat → ys.view.ty.Contents (Elt F)
  | 0 => f
  | k + 1 => (scan ys us bct at96 fu fb f hs (k + 1)).1

theorem scanBuf_eq (at96 : FVec F T16x128 .f32) (fu : us.view.ty.Contents (Elt F)) (fb : bct.view.ty.Contents (Elt F))
    (f : ys.view.ty.Contents (Elt F)) (hs : States F) (k : Nat) :
    scanBuf ys us bct at96 fu fb f hs k = (scan ys us bct at96 fu fb f hs k).1 := by
  cases k <;> rfl

end Contents

/-! ## The triples -/

section Triples

variable {Ix : Type} [DecidableEq Ix] {Name : Type} [DecidableEq Name] {U : Type} [URA U] {Lvl : Type} [Preorder Lvl]
variable {defs : Defs nD τ sig (Elt F) Λ} (𝒱 : Variants) (c : Dev nD) (bd : Option 𝒱.V) (E : Set Name)

local notation "𝕄" => MT nD τ sig Ix (Elt F) Name U Lvl

/-- A row's triple. -/
theorem wp_putRow (ys : Memref sig .tc .vmem T16384x128 .f32) (k : Fin trips.trips) (b : Fin 4) (j : Fin 128)
    (y : FVec F T1x128 .f32) (f : Buf (Elt F) (ys.view.loc (c : Thread nD τ))) (Q : PUnit → sProp 𝕄) :
    iprop((ys.view.loc (c : Thread nD τ) ↦{fullShare} f)
        ∗ ((ys.view.loc (c : Thread nD τ) ↦{fullShare} (rowBuf ys k b j y f : Buf (Elt F) (ys.view.loc (c : Thread nD τ)))) -∗ Q ⟨⟩))
      ⊢ wp frame (wpE defs 𝒱 (c : Thread nD τ) bd) E (putRow ys k b j y) Q := by
  unfold putRow
  show _ ⊢ wp frame (wpE defs 𝒱 (c : Thread nD τ) bd) E (.op _ fun _ => .op _ .ret) Q
  iintro ⟨H, HK⟩
  iapply (wp_load 𝒱 (c : Thread nD τ) bd E (Finset.subset_univ _)) $$ H
  iintro H
  iapply (wp_store 𝒱 (c : Thread nD τ) bd E (m := ys) (r := rowRect k b j) (Finset.subset_univ _)) $$ H
  iintro H
  rw [wp_ret]
  imodintro
  iapply HK
  iexact H

/-- The triple of a trip's rows. -/
theorem wp_putRows (ys : Memref sig .tc .vmem T16384x128 .f32) (k : Fin trips.trips)
    (y : Fin 4 → Fin 128 → FVec F T1x128 .f32) (Q : PUnit → sProp 𝕄) : (m : Nat) → (hm : m ≤ 128) →
    (f : Buf (Elt F) (ys.view.loc (c : Thread nD τ))) →
    iprop((ys.view.loc (c : Thread nD τ) ↦{fullShare} f)
        ∗ ((ys.view.loc (c : Thread nD τ) ↦{fullShare} (rowsBuf ys k y m hm f : Buf (Elt F) (ys.view.loc (c : Thread nD τ)))) -∗ Q ⟨⟩))
      ⊢ wp frame (wpE defs 𝒱 (c : Thread nD τ) bd) E (putRows ys k y m hm) Q
  | 0, _, f => by
    unfold putRows rowsBuf
    iintro ⟨H, HK⟩
    rw [wp_ret]
    imodintro
    iapply HK
    iexact H
  | m + 1, hm, f => by
    unfold putRows rowsBuf
    iintro ⟨H, HK⟩
    iapply (Entails.of_eq (wp_bind frame (wpE defs 𝒱 (c : Thread nD τ) bd) E _ _ Q).symm)
    iapply (wp_putRow 𝒱 c bd E ys k 0 _ _ f)
    isplitl [H]; · iexact H
    iintro H
    iapply (Entails.of_eq (wp_bind frame (wpE defs 𝒱 (c : Thread nD τ) bd) E _ _ Q).symm)
    iapply (wp_putRow 𝒱 c bd E ys k 1 _ _ _)
    isplitl [H]; · iexact H
    iintro H
    iapply (Entails.of_eq (wp_bind frame (wpE defs 𝒱 (c : Thread nD τ) bd) E _ _ Q).symm)
    iapply (wp_putRow 𝒱 c bd E ys k 2 _ _ _)
    isplitl [H]; · iexact H
    iintro H
    iapply (Entails.of_eq (wp_bind frame (wpE defs 𝒱 (c : Thread nD τ) bd) E _ _ Q).symm)
    iapply (wp_putRow 𝒱 c bd E ys k 3 _ _ _)
    isplitl [H]; · iexact H
    iintro H
    iapply (wp_putRows ys k y Q m _ _)
    isplitl [H]; · iexact H
    iexact HK

/-- What a trip holds: the buffer of steps, the buffer of inputs, the buffer of columns. -/
abbrev held (ys us : Memref sig .tc .vmem T16384x128 .f32) (bct : Memref sig .tc .vmem T32x16384 .f32)
    (f : Buf (Elt F) (ys.view.loc (c : Thread nD τ))) (fu : Buf (Elt F) (us.view.loc (c : Thread nD τ)))
    (fb : Buf (Elt F) (bct.view.loc (c : Thread nD τ))) : sProp 𝕄 :=
  iprop((ys.view.loc (c : Thread nD τ) ↦{fullShare} f) ∗ (us.view.loc (c : Thread nD τ) ↦{fullShare} fu)
    ∗ (bct.view.loc (c : Thread nD τ) ↦{fullShare} fb))

/-- The triple of a trip once its data have been looked at. -/
theorem wp_tripTail (ys us : Memref sig .tc .vmem T16384x128 .f32) (bct : Memref sig .tc .vmem T32x16384 .f32)
    (at96 : FVec F T16x128 .f32) (k : Fin trips.trips) (hs : States F)
    (f : Buf (Elt F) (ys.view.loc (c : Thread nD τ))) (fu : Buf (Elt F) (us.view.loc (c : Thread nD τ)))
    (fb : Buf (Elt F) (bct.view.loc (c : Thread nD τ))) (Q : States F → sProp 𝕄)
    (d u : Fin 4 → Vec F T128x128 .f32) (cs : Fin 4 → Vec F T32x128 .f32)
    (hd : d = dtOf ys f k) (hu : u = dtOf us fu k) (hc : cs = bcOf bct fb k) :
    iprop(held c ys us bct f fu fb
        ∗ (held c ys us bct (rowsBuf ys k (tripRows ys us bct at96 f fu fb k hs) 128 (by omega) f) fu fb
          -∗ Q (tripStates ys us bct at96 f fu fb k hs)))
      ⊢ wp frame (wpE defs 𝒱 (c : Thread nD τ) bd) E (tripTail ys at96 k hs d u cs) Q := by
  subst hd hu hc
  unfold tripTail tripStates tripAfter
  iintro ⟨⟨H, Hu, Hb⟩, HK⟩
  iapply (Entails.of_eq (wp_bind frame (wpE defs 𝒱 (c : Thread nD τ) bd) E _ _ Q).symm)
  iapply (wp_putRows 𝒱 c bd E ys k _ _ 128 _ f)
  isplitl [H]; · iexact H
  iintro H
  rw [wp_ret]
  imodintro
  iapply HK
  isplitl [H]; · iexact H
  isplitl [Hu]; · iexact Hu
  iexact Hb

/-- The triple of a trip. -/
theorem wp_trip (ys us : Memref sig .tc .vmem T16384x128 .f32) (bct : Memref sig .tc .vmem T32x16384 .f32)
    (at96 : FVec F T16x128 .f32) (k : Fin trips.trips) (hs : States F)
    (f : Buf (Elt F) (ys.view.loc (c : Thread nD τ))) (fu : Buf (Elt F) (us.view.loc (c : Thread nD τ)))
    (fb : Buf (Elt F) (bct.view.loc (c : Thread nD τ))) (Q : States F → sProp 𝕄) :
    iprop(held c ys us bct f fu fb
        ∗ (held c ys us bct (rowsBuf ys k (tripRows ys us bct at96 f fu fb k hs) 128 (by omega) f) fu fb
          -∗ Q (tripStates ys us bct at96 f fu fb k hs)))
      ⊢ wp frame (wpE defs 𝒱 (c : Thread nD τ) bd) E (trip ys us bct at96 k hs) Q := by
  unfold trip getRows getCols
  show _ ⊢ wp frame (wpE defs 𝒱 (c : Thread nD τ) bd) E
    (.op _ fun _ => .op _ fun _ => .op _ fun _ => .op _ fun _ => .op _ fun _ => .op _ fun _ => .op _ fun _ =>
      .op _ fun _ => .op _ fun _ => .op _ fun _ => .op _ fun _ => .op _ fun _ => _) Q
  iintro ⟨⟨H, Hu, Hb⟩, HK⟩
  iapply (wp_load 𝒱 (c : Thread nD τ) bd E (Finset.subset_univ _)) $$ H
  iintro H
  iapply (wp_load 𝒱 (c : Thread nD τ) bd E (Finset.subset_univ _)) $$ H
  iintro H
  iapply (wp_load 𝒱 (c : Thread nD τ) bd E (Finset.subset_univ _)) $$ H
  iintro H
  iapply (wp_load 𝒱 (c : Thread nD τ) bd E (Finset.subset_univ _)) $$ H
  iintro H
  iapply (wp_load 𝒱 (c : Thread nD τ) bd E (Finset.subset_univ _)) $$ Hu
  iintro Hu
  iapply (wp_load 𝒱 (c : Thread nD τ) bd E (Finset.subset_univ _)) $$ Hu
  iintro Hu
  iapply (wp_load 𝒱 (c : Thread nD τ) bd E (Finset.subset_univ _)) $$ Hu
  iintro Hu
  iapply (wp_load 𝒱 (c : Thread nD τ) bd E (Finset.subset_univ _)) $$ Hu
  iintro Hu
  iapply (wp_load 𝒱 (c : Thread nD τ) bd E (Finset.subset_univ _)) $$ Hb
  iintro Hb
  iapply (wp_load 𝒱 (c : Thread nD τ) bd E (Finset.subset_univ _)) $$ Hb
  iintro Hb
  iapply (wp_load 𝒱 (c : Thread nD τ) bd E (Finset.subset_univ _)) $$ Hb
  iintro Hb
  iapply (wp_load 𝒱 (c : Thread nD τ) bd E (Finset.subset_univ _)) $$ Hb
  iintro Hb
  iapply (wp_tripTail 𝒱 c bd E ys us bct at96 k hs f fu fb Q _ _ _
    (by funext b; fin_cases b <;> rfl) (by funext b; fin_cases b <;> rfl) (by funext b; fin_cases b <;> rfl))
  isplitl [H Hu Hb]
  · isplitl [H]; · iexact H
    isplitl [Hu]; · iexact Hu
    iexact Hb
  iexact HK

end Triples

end Mamba
-- ==== Proof.KI.Run.lean ====
/- The kernel's run, read at its staging buffers: whatever the fifteen inputs hold, the body ends with the two result
   blocks at values computed from them, and the whole program runs to its end with its arguments as launched. -/
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.KI.Body
public import proofs.«01_k».proof.Proof.Mamba.Trip
public import Idealize.ShloMosaic.Lib.Tactic

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

local notation "𝕄" => MT nD τ sig Unit (Elt F) ℕ (UR sig nD τ) ℕ

abbrev 𝒱₀ : Variants := Variants.none

/-! ## The loop -/

section Loop

variable (c : Dev nD) (i : grid0.Coords)
    (arg1 : Memref sig .tc .vmem S4x4096x64 .f32) (harg1 : arg1.IsWhole)
    (arg2 : Memref sig .tc .vmem S256x64 .f32) (harg2 : arg2.IsWhole)
    (arg3 : Memref sig .tc .vmem S3x128 .f32) (harg3 : arg3.IsWhole)
    (arg4 : Memref sig .tc .vmem S1x128 .f32) (harg4 : arg4.IsWhole)
    (arg5 : Memref sig .tc .vmem S128x128 .f32) (harg5 : arg5.IsWhole)
    (arg6 : Memref sig .tc .vmem S1x128 .f32) (harg6 : arg6.IsWhole)
    (arg7 : Memref sig .tc .vmem S32x128 .f32) (harg7 : arg7.IsWhole)
    (arg8 : Memref sig .tc .vmem S16x128 .f32) (harg8 : arg8.IsWhole)
    (arg9 : Memref sig .tc .vmem S1x128 .f32) (harg9 : arg9.IsWhole)
    (arg10 : Memref sig .tc .vmem S64x128 .f32) (harg10 : arg10.IsWhole)
    (arg11 : Memref sig .tc .vmem S9x128x64 .f32) (harg11 : arg11.IsWhole)
    (arg12 : Memref sig .tc .vmem S1x128 .f32) (harg12 : arg12.IsWhole)
    (arg13 : Memref sig .tc .vmem S1x128 .f32) (harg13 : arg13.IsWhole)
    (arg14 : Memref sig .tc .vmem S128x256 .f32) (harg14 : arg14.IsWhole)
    (arg15 : Memref sig .tc .vmem S1x128 .f32) (harg15 : arg15.IsWhole)
    (arg16 : Memref sig .tc .vmem S4x128x4096 .f32) (harg16 : arg16.IsWhole)
    (arg17 : Memref sig .tc .vmem S4x128x1024 .f32) (harg17 : arg17.IsWhole)
    (arg18 : Memref sig .tc .vmem S16384x128 .f32) (harg18 : arg18.IsWhole)
    (arg19 : Memref sig .tc .vmem S16384x128 .f32) (harg19 : arg19.IsWhole)
    (arg20 : Memref sig .tc .vmem S32x16384 .f32) (harg20 : arg20.IsWhole)
    (v6 v61 v82 : FVec F S16384x128 .f32) (v83 : Vec F S32x128 .f32) (v95 : Vec F S16x128 .f32)
    (init : Mamba.States F)

set_option warn.classDefReducibility false in
/-- Before trip `k` the buffer of steps is what `k` trips leave of it, the other two scratch buffers are as they
    were, and the carried states are those `k` trips reach. -/
@[sl_loop] def loopInv (f : Buf (Elt F) (arg18.view.loc (c : Thread nD τ))) (fu : Buf (Elt F) (arg19.view.loc (c : Thread nD τ)))
    (fb : Buf (Elt F) (arg20.view.loc (c : Thread nD τ))) :
    LoopInvTy_k0_t1 (F := F) Unit ℕ (UR sig nD τ) ℕ 𝒱₀ c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v6 v61 v82 v83 v95 init where
  inv k acc := iprop(⌜acc = (Mamba.scan arg18 arg19 arg20 (k0_pay1438 v95) fu fb f init k).2⌝
    ∗ Mamba.held c arg18 arg19 arg20 (Mamba.scanBuf arg18 arg19 arg20 (k0_pay1438 v95) fu fb f init k) fu fb)
  step k acc := by
    rw [body_eq, Mamba.scanBuf_eq, Mamba.scanBuf_eq]
    have e := Mamba.scan_succ arg18 arg19 arg20 (k0_pay1438 v95) fu fb f init k
    rw [e]
    iintro ⟨%h, H⟩
    subst h
    iapply (Mamba.wp_trip 𝒱₀ c none Set.univ arg18 arg19 arg20 (k0_pay1438 v95) k _ _ fu fb _)
    isplitl [H]
    · iexact H
    iintro H
    isplitr
    · ipureintro; rfl
    iexact H

end Loop

/-! ## The body on any staging memrefs -/

set_option maxHeartbeats 0 in
/-- What the body leaves in the two result blocks, with the proof that it leaves it: on whole staging memrefs — the
    inputs at `x0 … x14`, the results and the scratch at anything — the body runs to the end holding the inputs as they
    were and the results at those values. -/
def kernelRun (c : Dev nD) (i : grid0.Coords)
    (arg1 : Memref sig .tc .vmem S4x4096x64 .f32) (harg1 : arg1.IsWhole)
    (arg2 : Memref sig .tc .vmem S256x64 .f32) (harg2 : arg2.IsWhole)
    (arg3 : Memref sig .tc .vmem S3x128 .f32) (harg3 : arg3.IsWhole)
    (arg4 : Memref sig .tc .vmem S1x128 .f32) (harg4 : arg4.IsWhole)
    (arg5 : Memref sig .tc .vmem S128x128 .f32) (harg5 : arg5.IsWhole)
    (arg6 : Memref sig .tc .vmem S1x128 .f32) (harg6 : arg6.IsWhole)
    (arg7 : Memref sig .tc .vmem S32x128 .f32) (harg7 : arg7.IsWhole)
    (arg8 : Memref sig .tc .vmem S16x128 .f32) (harg8 : arg8.IsWhole)
    (arg9 : Memref sig .tc .vmem S1x128 .f32) (harg9 : arg9.IsWhole)
    (arg10 : Memref sig .tc .vmem S64x128 .f32) (harg10 : arg10.IsWhole)
    (arg11 : Memref sig .tc .vmem S9x128x64 .f32) (harg11 : arg11.IsWhole)
    (arg12 : Memref sig .tc .vmem S1x128 .f32) (harg12 : arg12.IsWhole)
    (arg13 : Memref sig .tc .vmem S1x128 .f32) (harg13 : arg13.IsWhole)
    (arg14 : Memref sig .tc .vmem S128x256 .f32) (harg14 : arg14.IsWhole)
    (arg15 : Memref sig .tc .vmem S1x128 .f32) (harg15 : arg15.IsWhole)
    (arg16 : Memref sig .tc .vmem S4x128x4096 .f32) (harg16 : arg16.IsWhole)
    (arg17 : Memref sig .tc .vmem S4x128x1024 .f32) (harg17 : arg17.IsWhole)
    (arg18 : Memref sig .tc .vmem S16384x128 .f32) (harg18 : arg18.IsWhole)
    (arg19 : Memref sig .tc .vmem S16384x128 .f32) (harg19 : arg19.IsWhole)
    (arg20 : Memref sig .tc .vmem S32x16384 .f32) (harg20 : arg20.IsWhole)
    (x0 : Vec F S4x4096x64 .f32) (x1 : Vec F S256x64 .f32) (x2 : Vec F S3x128 .f32) (x3 : Vec F S1x128 .f32) (x4 : Vec F S128x128 .f32) (x5 : Vec F S1x128 .f32) (x6 : Vec F S32x128 .f32) (x7 : Vec F S16x128 .f32) (x8 : Vec F S1x128 .f32) (x9 : Vec F S64x128 .f32) (x10 : Vec F S9x128x64 .f32) (x11 : Vec F S1x128 .f32) (x12 : Vec F S1x128 .f32) (x13 : Vec F S128x256 .f32) (x14 : Vec F S1x128 .f32) :
    { Y : Vec F S4x128x4096 .f32 × Vec F S4x128x1024 .f32 //
      ∀ (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14
            ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14
                ∗ owns (c : Thread nD τ) arg16 fullShare Y.1 ∗ owns (c : Thread nD τ) arg17 fullShare Y.2 ∗ (∃ d, owns (c : Thread nD τ) arg18 fullShare d) ∗ (∃ d, owns (c : Thread nD τ) arg19 fullShare d) ∗ (∃ d, owns (c : Thread nD τ) arg20 fullShare d)) -∗ K ⟨⟩))
          ⊢ wp frame (wpE (defs₀ (F := F)) 𝒱₀ c none) Set.univ (cc0__block i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨(?_, ?_), fun K => ?run⟩
  case run =>
    unfold owns
    simp only [harg18.set_eq_univ, harg19.set_eq_univ, harg20.set_eq_univ]
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, ⟨%d18, %f18, -, H18⟩, ⟨%d19, %f19, -, H19⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14
    sl_unfold [cc0__block]
    sl_exec!
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; swap; · iexact H15
      ipureintro; rfl
    isplitl [H16]
    · iexists _; isplitr; swap; · iexact H16
      ipureintro; rfl
    isplitl [H17]
    · iexists _; iexists _; isplitr; swap; · iexact H17
      ipureintro; rfl
    isplitl [H18]
    · iexists _; iexists _; isplitr; swap; · iexact H18
      ipureintro; rfl
    iexists _; iexists _; isplitr; swap; · iexact H19
    ipureintro; rfl

end Cert.Proof.KI

end
-- ==== Proof.KI.Launch.lean ====
/- The run of the whole program: the body at the one point of the launch, and the arrays it leaves. -/
module

public import proofs.«01_k».proof.Proof.KI.Run

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

local notation "𝕄" => MT nD τ sig Unit (Elt F) ℕ (UR sig nD τ) ℕ

/-! ## The staging memrefs at a point (there is one point) -/

abbrev ms0_0 (t : Fin cfg0.N) : Memref sig .tc .vmem S4x4096x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S3x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S32x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S16x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S64x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S9x128x64 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x128 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x128 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S128x256 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x128 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S4x128x4096 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S4x128x1024 .f32 := win0_16.stage (cfg0.slots t 16)
abbrev hs0_16 (t : Fin cfg0.N) : (ms0_16 t).IsWhole := hstage0_16 ((cfg0.slots t 16).cast nbuf0_16)

variable (m : (ℓ : Loc nD τ sig) → Buf (Elt F) ℓ) (ρ : Dev nD → PrngReg)

/-- What the body leaves in the two result blocks at the point. -/
def outsAt (c : Dev nD) (t : Fin cfg0.N) : Vec F S4x128x4096 .f32 × Vec F S4x128x1024 .f32 :=
  (kernelRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t)
    (Memref.whole cc0_scratch0) (Memref.isWhole_whole _) (Memref.whole cc0_scratch1) (Memref.isWhole_whole _)
    (Memref.whole cc0_scratch2) (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)).1

/-! ## The pipeline's proof data -/

/-- The arrays as the region finds them; after the body each input's buffer at its block and the results' at `outsAt`;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => (outsAt m c t).1
    | ⟨16, _⟩ => (outsAt m c t).2
    | ⟨n + 17, h⟩ => absurd h (by show ¬ n + 17 < 17; omega)
  Φ _ := ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = (outsAt m c t).1 := by dsimp only [dats]
theorem after0_16 (c : Dev nD) (t : Fin cfg0.N) : (dats m 0 c).after 16 t = (outsAt m c t).2 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d

/-! ## The body obligation -/

/-- A whole buffer held is its memref owned at the contents. -/
theorem owns_of_held (c : Dev nD) (b : Ref sig .tc) (g : Buf (Elt F) ((c : Thread nD τ).loc b)) :
    iprop(((c : Thread nD τ).loc b) ↦{fullShare} g : sProp 𝕄) ⊢ owns (c : Thread nD τ) (Memref.whole b) fullShare g := by
  rw [owns_whole_eq]
  iintro H
  iexists g
  isplitr
  · ipureintro; rfl
  iexact H

/-- and back. -/
theorem held_of_owns (c : Dev nD) (b : Ref sig .tc) (g : Buf (Elt F) ((c : Thread nD τ).loc b)) :
    (owns (c : Thread nD τ) (Memref.whole b) fullShare g : sProp 𝕄)
      ⊢ iprop(∃ f : Buf (Elt F) ((c : Thread nD τ).loc b), ((c : Thread nD τ).loc b) ↦{fullShare} f) := by
  rw [owns_whole_eq]
  iintro ⟨%f, -, H⟩
  iexists f
  iexact H

set_option maxHeartbeats 0 in
/-- The body at the point: the inputs' memrefs hold their blocks, the scratch buffers come out of the invariant and go
    back into it at whatever the body left in them. -/
theorem body_obligation (c : Dev nD) : BodyObligation (dats (F := F) m 0 c) (defs₀ (F := F)) 𝒱₀ () Set.univ := fun t => by
  rw [bigSep_W0, bigSep_W0]
  sl_whnfR [defs₀, Defs.onTc]
  simp only [before0_0, before0_1, before0_2, before0_3, before0_4, before0_5, before0_6, before0_7, before0_8, before0_9, before0_10, before0_11, before0_12, before0_13, before0_14]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16]
  rw [show (dats m 0 c).Φ t.castSucc = ΦA spec0 c from rfl]
  unfold outsAt ΦA
  rw [scopedRest0_eq]
  iintro ⟨⟨⟨⟨%g0, G0⟩, ⟨%g1, G1⟩, ⟨%g2, G2⟩⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply ((kernelRun c (grid0.coords t) _ _ _ _ _ _ _ _ _ _ _ _ _ _ _ _ _ _ _ _ _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)).2 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [H16]; · iexists _; iexact H16
  isplitl [G0]; · iexists _; iapply (owns_of_held c cc0_scratch0 g0); iexact G0
  isplitl [G1]; · iexists _; iapply (owns_of_held c cc0_scratch1 g1); iexact G1
  isplitl [G2]; · iexists _; iapply (owns_of_held c cc0_scratch2 g2); iexact G2
  iintro ⟨H0, H1, H2, H3, H4, H5, H6, H7, H8, H9, H10, H11, H12, H13, H14, H15, H16, ⟨%e0, G0⟩, ⟨%e1, G1⟩, ⟨%e2, G2⟩⟩
  isplitl [G0 G1 G2 Hr]
  · isplitr [Hr]
    · isplitl [G0]; · iapply (held_of_owns c cc0_scratch0 e0); iexact G0
      isplitl [G1]; · iapply (held_of_owns c cc0_scratch1 e1); iexact G1
      iapply (held_of_owns c cc0_scratch2 e2); iexact G2
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

/-! ## The run -/

set_option backward.isDefEq.respectTransparency.types false in
/-- At the compiled mesh, for any values, from any memory with zero counters: every weakly fair execution of @main on
    the TensorCores terminates, with every array of the pipeline as computed from the proof data and every semaphore
    counter at zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := fun _ _ => rfl) (hΦ := fun _ _ => rfl)

end Cert.Proof.KI

end
-- ==== Proof.KI.Stages.lean ====
/- The kernel's stages as functions of its input blocks: the sequence of pixels is projected, convolved and
   discretised, the recurrence's outputs are gated and projected back, and each batch element's image is convolved,
   normalised and pooled. -/
module

public import proofs.«01_k».proof.Proof.Gen.KernelIdeal.Skeleton
public import Idealize.ShloMosaic.Lib.Tactic
public import Idealize.ShloMosaic.Lib.Pipeline.FrameBody

@[expose] public section

set_option maxRecDepth 16384

noncomputable section

namespace Cert.Proof.KI

open Cert.KernelIdeal Cert.KernelIdeal.Gen
open Idealize.ShloMosaic Idealize.ShloMosaic.TcCoe

variable {F : FTy → Type} [FloatOps F]

/-! ## Before the recurrence -/

/-- A row of the convolution's weights. -/
abbrev cw0 (x2 : Vec F S3x128 .f32) : Vec F S1x128 .f32 :=
  View.ld x2 (Rect.unit ![0, 0] S1x128.size inb_S3x128_S1x128_0_0)
abbrev cw1 (x2 : Vec F S3x128 .f32) : Vec F S1x128 .f32 :=
  View.ld x2 (Rect.unit ![1, 0] S1x128.size inb_S3x128_S1x128_1_0)
abbrev cw2 (x2 : Vec F S3x128 .f32) : Vec F S1x128 .f32 :=
  View.ld x2 (Rect.unit ![2, 0] S1x128.size inb_S3x128_S1x128_2_0)

/-- The recurrence's input: the convolved projection through its activation. -/
def uK (x0 : Vec F S4x4096x64 .f32) (x1 : Vec F S256x64 .f32) (x2 : Vec F S3x128 .f32) (x3 : Vec F S1x128 .f32) :
    FVec F S16384x128 .f32 :=
  k0_pay1433 (k0_pay1426 x0 x1) (k0_pay1429 x0 x1) (k0_pay1430 x0 x1) k0_pay1431 k0_pay1432
    (cw2 x2) (cw1 x2) (cw0 x2) x3

/-- The recurrence's steps. -/
def dtK (x0 : Vec F S4x4096x64 .f32) (x1 : Vec F S256x64 .f32) (x2 : Vec F S3x128 .f32) (x3 : Vec F S1x128 .f32)
    (x4 : Vec F S128x128 .f32) (x5 : Vec F S1x128 .f32) : FVec F S16384x128 .f32 :=
  k0_pay1435 (k0_pay1434 (k0_pay1426 x0 x1) (k0_pay1429 x0 x1) (k0_pay1430 x0 x1) k0_pay1431 k0_pay1432
    (cw2 x2) (cw1 x2) (cw0 x2) x3 x4 x5)

/-- The recurrence's input and readout columns. -/
def bcK (u : FVec F S16384x128 .f32) (x6 : Vec F S32x128 .f32) : FVec F S32x16384 .f32 := k0_pay1437 u x6

/-! ## After the recurrence -/

/-- The residual stream: the pixels plus the gated outputs `y` projected back. -/
def resK (x0 : Vec F S4x4096x64 .f32) (x1 : Vec F S256x64 .f32) (y : Vec F S16384x128 .f32)
    (x8 : Vec F S1x128 .f32) (u : FVec F S16384x128 .f32) (x9 : Vec F S64x128 .f32) : FVec F S16384x64 .f32 :=
  k0_pay1445 (k0_pay1424 x0) (k0_pay1444 (k0_pay1427 x0 x1) y x8 u x9)

/-- A pixel's value where it is not in the first column of the image, and zero there. -/
def notFirst (x : FVec F S4096x64 .f32) : FVec F S4096x64 .f32 :=
  select (broadcastTo S4096x64 (shapeCast S4096x1 (cmpi .ne k0_pay1446 (broadcast S4096x1 0#32))
    shapeCasts_S4096x1_S4096x1) broadcasts_S4096x1_S4096x64) x (broadcast S4096x64 (Scalar.ofBits .f32 0x00000000#32))

/-- A pixel's value where it is not in the last column of the image, and zero there. -/
def notLast (x : FVec F S4096x64 .f32) : FVec F S4096x64 .f32 :=
  select (broadcastTo S4096x64 (shapeCast S4096x1 (cmpi .ne k0_pay1446 (broadcast S4096x1 63#32))
    shapeCasts_S4096x1_S4096x1) broadcasts_S4096x1_S4096x64) x (broadcast S4096x64 (Scalar.ofBits .f32 0x00000000#32))

/-- One tap's contribution: the shifted image against the tap's weights. -/
def part (t : FVec F S4096x64 .f32) (w : Vec F S1x128x64 .f32) : FVec F S4096x128 .f32 :=
  matmul dot_S4096x64_S128x64_S4096x128_1_1_0_0_n_n none t (shapeCast S128x64 w shapeCasts_S1x128x64_S128x64)
    (constant S4096x128 .f32 0x00000000#32)

section Taps

variable (r : FVec F S4096x64 .f32)

/-- The image shifted down by 65, 64, 63 and 1 pixels, and up by 1, 63, 64 and 65, with zeros moved in. -/
def down65 : FVec F S4096x64 .f32 :=
  concatenate S4096x64 0 [⟨S65x64, broadcast S65x64 (Scalar.ofBits .f32 0x00000000#32)⟩,
    ⟨S4031x64, extractStridedSlice S4031x64 ![0, 0] r slices_S4096x64_o0_0_S4031x64⟩] concatenates_S65x64_S4031x64_S4096x64_d0
def down64 : FVec F S4096x64 .f32 :=
  concatenate S4096x64 0 [⟨S64x64, broadcast S64x64 (Scalar.ofBits .f32 0x00000000#32)⟩,
    ⟨S4032x64, extractStridedSlice S4032x64 ![0, 0] r slices_S4096x64_o0_0_S4032x64⟩] concatenates_S64x64_S4032x64_S4096x64_d0
def down63 : FVec F S4096x64 .f32 :=
  concatenate S4096x64 0 [⟨S63x64, broadcast S63x64 (Scalar.ofBits .f32 0x00000000#32)⟩,
    ⟨S4033x64, extractStridedSlice S4033x64 ![0, 0] r slices_S4096x64_o0_0_S4033x64⟩] concatenates_S63x64_S4033x64_S4096x64_d0
def down1 : FVec F S4096x64 .f32 :=
  concatenate S4096x64 0 [⟨S1x64, broadcast S1x64 (Scalar.ofBits .f32 0x00000000#32)⟩,
    ⟨S4095x64, extractStridedSlice S4095x64 ![0, 0] r slices_S4096x64_o0_0_S4095x64⟩] concatenates_S1x64_S4095x64_S4096x64_d0
def up1 : FVec F S4096x64 .f32 :=
  concatenate S4096x64 0 [⟨S4095x64, extractStridedSlice S4095x64 ![1, 0] r slices_S4096x64_o1_0_S4095x64⟩,
    ⟨S1x64, broadcast S1x64 (Scalar.ofBits .f32 0x00000000#32)⟩] concatenates_S4095x64_S1x64_S4096x64_d0
def up63 : FVec F S4096x64 .f32 :=
  concatenate S4096x64 0 [⟨S4033x64, extractStridedSlice S4033x64 ![63, 0] r slices_S4096x64_o63_0_S4033x64⟩,
    ⟨S63x64, broadcast S63x64 (Scalar.ofBits .f32 0x00000000#32)⟩] concatenates_S4033x64_S63x64_S4096x64_d0
def up64 : FVec F S4096x64 .f32 :=
  concatenate S4096x64 0 [⟨S4032x64, extractStridedSlice S4032x64 ![64, 0] r slices_S4096x64_o64_0_S4032x64⟩,
    ⟨S64x64, broadcast S64x64 (Scalar.ofBits .f32 0x00000000#32)⟩] concatenates_S4032x64_S64x64_S4096x64_d0
def up65 : FVec F S4096x64 .f32 :=
  concatenate S4096x64 0 [⟨S4031x64, extractStridedSlice S4031x64 ![65, 0] r slices_S4096x64_o65_0_S4031x64⟩,
    ⟨S65x64, broadcast S65x64 (Scalar.ofBits .f32 0x00000000#32)⟩] concatenates_S4031x64_S65x64_S4096x64_d0

/-- The taps of the image. -/
def taps : Fin 9 → FVec F S4096x64 .f32 :=
  ![notFirst (down65 r), down64 r, notLast (down63 r), notFirst (down1 r), r, notLast (up1 r), notFirst (up63 r),
    up64 r, notLast (up65 r)]

end Taps

/-- The convolution's weights, tap by tap. -/
def tapW (x10 : Vec F S9x128x64 .f32) : Fin 9 → Vec F S1x128x64 .f32 :=
  ![View.ld x10 (Rect.unit ![0, 0, 0] S1x128x64.size inb_S9x128x64_S1x128x64_0_0_0),
    View.ld x10 (Rect.unit ![1, 0, 0] S1x128x64.size inb_S9x128x64_S1x128x64_1_0_0),
    View.ld x10 (Rect.unit ![2, 0, 0] S1x128x64.size inb_S9x128x64_S1x128x64_2_0_0),
    View.ld x10 (Rect.unit ![3, 0, 0] S1x128x64.size inb_S9x128x64_S1x128x64_3_0_0),
    View.ld x10 (Rect.unit ![4, 0, 0] S1x128x64.size inb_S9x128x64_S1x128x64_4_0_0),
    View.ld x10 (Rect.unit ![5, 0, 0] S1x128x64.size inb_S9x128x64_S1x128x64_5_0_0),
    View.ld x10 (Rect.unit ![6, 0, 0] S1x128x64.size inb_S9x128x64_S1x128x64_6_0_0),
    View.ld x10 (Rect.unit ![7, 0, 0] S1x128x64.size inb_S9x128x64_S1x128x64_7_0_0),
    View.ld x10 (Rect.unit ![8, 0, 0] S1x128x64.size inb_S9x128x64_S1x128x64_8_0_0)]

/-- The convolution of an image: its nine taps' contributions, added in order. -/
def conv9 (r : FVec F S4096x64 .f32) (w : Fin 9 → Vec F S1x128x64 .f32) : FVec F S4096x128 .f32 :=
  addf (addf (addf (addf (addf (addf (addf (addf (part (taps r 0) (w 0)) (part (taps r 1) (w 1)))
    (part (taps r 2) (w 2))) (part (taps r 3) (w 3))) (part (taps r 4) (w 4))) (part (taps r 5) (w 5)))
    (part (taps r 6) (w 6))) (part (taps r 7) (w 7))) (part (taps r 8) (w 8))

/-- The convolved image, normalised and cut off below at zero. -/
def skipHwc (a : FVec F S4096x128 .f32) (x11 x12 : Vec F S1x128 .f32) : FVec F S4096x128 .f32 :=
  k0_pay1454 a (k0_pay1453 x11) x12

/-- The first result's block of a batch element: channels by pixels. -/
def skipBlk (s : FVec F S4096x128 .f32) : FVec F S1x128x4096 .f32 :=
  shapeCast S1x128x4096 (transpose S128x4096 [1, 0] s transposes_S4096x128_p1_0_S128x4096) shapeCasts_S128x4096_S1x128x4096

section Pool

variable (s : FVec F S4096x128 .f32)

/-- The even and the odd rows of an image. -/
def evenRows : FVec F S32x64x128 .f32 :=
  shapeCast S32x64x128 (extractStridedSlice S32x1x64x128 ![0, 0, 0, 0]
    (shapeCast S32x2x64x128 s shapeCasts_S4096x128_S32x2x64x128) slices_S32x2x64x128_o0_0_0_0_S32x1x64x128)
    shapeCasts_S32x1x64x128_S32x64x128
def oddRows : FVec F S32x64x128 .f32 :=
  shapeCast S32x64x128 (extractStridedSlice S32x1x64x128 ![0, 1, 0, 0]
    (shapeCast S32x2x64x128 s shapeCasts_S4096x128_S32x2x64x128) slices_S32x2x64x128_o0_1_0_0_S32x1x64x128)
    shapeCasts_S32x1x64x128_S32x64x128

/-- The maximum of each two by two window. -/
def poolMax : FVec F S1024x128 .f32 :=
  multiReduction .maximumf [1] S1024x128 (shapeCast S1024x2x128 (shapeCast S2048x128
    (maximumf (evenRows s) (oddRows s)) shapeCasts_S32x64x128_S2048x128) shapeCasts_S2048x128_S1024x2x128)
    0xFF800000#32 reduces_S1024x2x128_S1024x128 (.inl rfl) rfl

/-- The mean of each two by two window. -/
def poolMean : FVec F S1024x128 .f32 :=
  mulf (multiReduction .add [1] S1024x128 (shapeCast S1024x2x128 (shapeCast S2048x128
    (addf (evenRows s) (oddRows s)) shapeCasts_S32x64x128_S2048x128) shapeCasts_S2048x128_S1024x2x128)
    0x00000000#32 reduces_S1024x2x128_S1024x128 (.inl rfl) rfl)
    (broadcast S1024x128 (Scalar.ofBits .f32 0x3E800000#32))

end Pool

/-- The gate over the two pooled images. -/
def gateK (mp ap : FVec F S1024x128 .f32) (x13 : Vec F S128x256 .f32) (x14 : Vec F S1x128 .f32) :
    FVec F S1024x128 .f32 :=
  logistic (addf
    (matmul dot_S1024x256_S128x256_S1024x128_1_1_0_0_n_n none
      (concatenate S1024x256 1 [⟨S1024x128, mp⟩, ⟨S1024x128, ap⟩] concatenates_S1024x128_S1024x128_S1024x256_d1)
      (shapeCast S128x256 x13 shapeCasts_S128x256_S128x256) (constant S1024x128 .f32 0x00000000#32))
    (broadcastTo S1024x128 (shapeCast S1x128 x14 shapeCasts_S1x128_S1x128) broadcasts_S1x128_S1024x128))

/-- The gated mix of the two pooled images. -/
def mixK (g mp ap : FVec F S1024x128 .f32) : FVec F S1024x128 .f32 :=
  addf (mulf g mp) (mulf (subf (broadcast S1024x128 (Scalar.ofBits .f32 0x3F800000#32)) g) ap)

/-- The second result's block of a batch element: channels by windows. -/
def downBlk (s : FVec F S4096x128 .f32) (x13 : Vec F S128x256 .f32) (x14 : Vec F S1x128 .f32) :
    FVec F S1x128x1024 .f32 :=
  shapeCast S1x128x1024 (transpose S128x1024 [1, 0]
    (mixK (gateK (poolMax s) (poolMean s) x13 x14) (poolMax s) (poolMean s)) transposes_S1024x128_p1_0_S128x1024)
    shapeCasts_S128x1024_S1x128x1024

/-- A batch element's image. -/
def img (res : FVec F S16384x64 .f32) : Fin 4 → FVec F S4096x64 .f32 :=
  ![extractStridedSlice S4096x64 ![0, 0] res slices_S16384x64_o0_0_S4096x64,
    extractStridedSlice S4096x64 ![4096, 0] res slices_S16384x64_o4096_0_S4096x64,
    extractStridedSlice S4096x64 ![8192, 0] res slices_S16384x64_o8192_0_S4096x64,
    extractStridedSlice S4096x64 ![12288, 0] res slices_S16384x64_o12288_0_S4096x64]

/-- A batch element's normalised image. -/
def skipOf (res : FVec F S16384x64 .f32) (x10 : Vec F S9x128x64 .f32) (x11 x12 : Vec F S1x128 .f32) (b : Fin 4) :
    FVec F S4096x128 .f32 := skipHwc (conv9 (img res b) (tapW x10)) x11 x12

end Cert.Proof.KI

end
-- ==== Proof.Mamba.Spec.lean ====
/- The problem's mathematics over the extended reals, index by index: the projection of the pixels, the causal
   convolution, the recurrence, the gated projection back, the image's convolution, and the pooling with its gate. -/
module

public import Idealize.ShloMosaic.Lib.Pointwise

@[expose] public section

noncomputable section

namespace Mamba.Spec

open Idealize.ShloMosaic

/-- A sequence of `n` channels for each batch element. -/
abbrev Seq (n : Nat) : Type := Fin 4 → Fin 4096 → Fin n → EReal

/-- The projection of the pixels. -/
def proj {m n : Nat} (X : Seq m) (W : Fin n → Fin m → EReal) : Seq n := fun b t e => ∑ x, X b t x * W e x

/-- The value `n` steps earlier, zero before the first. -/
def earlier {m : Nat} (n : Nat) (u : Seq m) : Seq m := fun b t d =>
  if n ≤ t.val then u b ⟨t.val - n, by omega⟩ d else 0

/-- The causal convolution of three taps. -/
def conv (u : Seq 128) (w : Fin 3 → Fin 128 → EReal) (cb : Fin 128 → EReal) : Seq 128 := fun b t d =>
  earlier 2 u b t d * w 0 d + earlier 1 u b t d * w 1 d + u b t d * w 2 d + cb d

/-- The activation `x · σ(x)`. -/
def silu (x : EReal) : EReal := x * Ideal.logistic x

/-- The activation `log(1 + exp x)`, as `max x 0 + log1p (exp (-|x|))`. -/
def softplus (x : EReal) : EReal := max x 0 + Ideal.log1p (Ideal.exp (-(max x (-x))))

/-- The recurrence's state after the first `n` steps. -/
def state (A : Fin 128 → Fin 16 → EReal) (dt u : Seq 128) (B : Seq 16) (b : Fin 4) (d : Fin 128) (s : Fin 16) :
    (n : Nat) → n ≤ 4096 → EReal
  | 0, _ => 0
  | n + 1, hn => Ideal.exp (dt b ⟨n, hn⟩ d * A d s) * state A dt u B b d s n (by omega)
      + dt b ⟨n, hn⟩ d * u b ⟨n, hn⟩ d * B b ⟨n, hn⟩ s

/-- The recurrence's output. -/
def readout (A : Fin 128 → Fin 16 → EReal) (dt u : Seq 128) (B C : Seq 16) : Seq 128 := fun b t d =>
  ∑ s, state A dt u B b d s (t.val + 1) t.isLt * C b t s

/-- The residual stream: the pixels plus the gated output projected back. -/
def resid (X : Seq 64) (y u z : Seq 128) (D : Fin 128 → EReal) (wo : Fin 64 → Fin 128 → EReal) : Seq 64 := fun b t x =>
  X b t x + ∑ d, (y b t d + D d * u b t d) * silu (z b t d) * wo x d

/-- A neighbour of a pixel of the image, `dy - 1` rows down and `dx - 1` columns right of it, zero outside. -/
def near (r : Seq 64) (dy dx : Nat) (b : Fin 4) (p : Fin 4096) (x : Fin 64) : EReal :=
  if h : (1 ≤ p.val / 64 + dy ∧ p.val / 64 + dy ≤ 64) ∧ 1 ≤ p.val % 64 + dx ∧ p.val % 64 + dx ≤ 64 then
    r b ⟨p.val + 64 * dy + dx - 65, by omega⟩ x
  else 0

/-- A tap's contribution. -/
def tap (r : Seq 64) (w : Fin 128 → Fin 64 → Fin 3 → Fin 3 → EReal) (dy dx : Fin 3) : Seq 128 := fun b p o =>
  ∑ x, near r dy.val dx.val b p x * w o x dy dx

/-- The image's convolution. -/
def conv9 (r : Seq 64) (w : Fin 128 → Fin 64 → Fin 3 → Fin 3 → EReal) : Seq 128 := fun b p o =>
  tap r w 0 0 b p o + tap r w 0 1 b p o + tap r w 0 2 b p o + tap r w 1 0 b p o + tap r w 1 1 b p o
    + tap r w 1 2 b p o + tap r w 2 0 b p o + tap r w 2 1 b p o + tap r w 2 2 b p o

/-- The four pixels of a two by two window. -/
def win (q : Fin 1024) (i j : Fin 2) : Fin 4096 :=
  ⟨q.val / 32 * 128 + 64 * i.val + (q.val % 32 * 2 + j.val), by omega⟩

/-- The maximum of a window. -/
def wmax (s : Seq 128) (b : Fin 4) (q : Fin 1024) (o : Fin 128) : EReal :=
  max (max (s b (win q 0 0) o) (s b (win q 1 0) o)) (max (s b (win q 0 1) o) (s b (win q 1 1) o))

/-- The mean of a window. -/
def wmean (s : Seq 128) (b : Fin 4) (q : Fin 1024) (o : Fin 128) : EReal :=
  (s b (win q 0 0) o + s b (win q 1 0) o + (s b (win q 0 1) o + s b (win q 1 1) o)) * Ideal.ofBits .f32 0x3E800000#32

/-- The gate over the pooled images. -/
def gate (mp ap : Fin 4 → Fin 1024 → Fin 128 → EReal) (g : Fin 128 → Fin 256 → EReal) (gb : Fin 128 → EReal)
    (b : Fin 4) (q : Fin 1024) (o : Fin 128) : EReal :=
  Ideal.logistic ((∑ k : Fin 128, mp b q k * g o ⟨k.val, by omega⟩) + (∑ k : Fin 128, ap b q k * g o ⟨128 + k.val, by omega⟩)
    + gb o)

/-- The gated mix of the pooled images. -/
def mix (s : Seq 128) (g : Fin 128 → Fin 256 → EReal) (gb : Fin 128 → EReal) (b : Fin 4) (q : Fin 1024) (o : Fin 128) :
    EReal :=
  gate (wmax s) (wmean s) g gb b q o * wmax s b q o
    + (1 - gate (wmax s) (wmean s) g gb b q o) * wmean s b q o

/-! ## The stages put together -/

/-- The recurrence's input before its convolution, the gate's input, and the recurrence's input. -/
def u0 (X : Seq 64) (W : Fin 256 → Fin 64 → EReal) : Seq 128 := fun b t d => proj X W b t ⟨d.val, by omega⟩
def zOf (X : Seq 64) (W : Fin 256 → Fin 64 → EReal) : Seq 128 := fun b t d => proj X W b t ⟨128 + d.val, by omega⟩
def uOf (X : Seq 64) (W : Fin 256 → Fin 64 → EReal) (cw : Fin 3 → Fin 128 → EReal) (cb : Fin 128 → EReal) : Seq 128 :=
  fun b t d => silu (conv (u0 X W) cw cb b t d)

/-- The two halves of 32 rows. -/
abbrev lo (s : Fin 16) : Fin 32 := ⟨s.val, by omega⟩
abbrev hi (s : Fin 16) : Fin 32 := ⟨16 + s.val, by omega⟩

/-- The input matrix and the output matrix of the recurrence, of the last 32 rows of the projection. -/
def bOf (u : Seq 128) (wbc : Fin 32 → Fin 128 → EReal) : Seq 16 := fun b t s => proj u wbc b t (lo s)
def cOf (u : Seq 128) (wbc : Fin 32 → Fin 128 → EReal) : Seq 16 := fun b t s => proj u wbc b t (hi s)

/-- The residual stream, from the recurrence's steps, inputs and gate. -/
def stream (X : Seq 64) (dt u z : Seq 128) (wbc : Fin 32 → Fin 128 → EReal) (A : Fin 128 → Fin 16 → EReal)
    (D : Fin 128 → EReal) (wo : Fin 64 → Fin 128 → EReal) : Seq 64 :=
  resid X (readout A dt u (bOf u wbc) (cOf u wbc)) u z D wo

end Mamba.Spec

end
-- ==== Proof.KI.Read1.lean ====
/- The kernel's stages before the recurrence, index by index. -/
module

public import proofs.«01_k».proof.Proof.KI.Stages
public import proofs.«01_k».proof.Proof.Mamba.Spec
public import Idealize.ShloMosaic.Lib.Pointwise
public import Idealize.ShloMosaic.Lib.Tactic.WordOmega
public import Idealize.ShloMosaic.Lib.Routing.Words

@[expose] public section

set_option maxRecDepth 16384

noncomputable section

namespace Cert.Proof.KI

open Cert.KernelIdeal Cert.KernelIdeal.Gen
open Idealize.ShloMosaic Idealize.ShloMosaic.TcCoe
open Mamba.Spec (Seq)

/-- The row of a batch element's time step. -/
abbrev row (b : Fin 4) (t : Fin 4096) : Fin 16384 := ⟨4096 * b.val + t.val, by omega⟩

/-- The batch element and the time step of a row. -/
abbrev bOf (i : Fin 16384) : Fin 4 := ⟨i.val / 4096, by omega⟩
abbrev tOf (i : Fin 16384) : Fin 4096 := ⟨i.val % 4096, by omega⟩

theorem bOf_row (b : Fin 4) (t : Fin 4096) : bOf (row b t) = b :=
  Fin.ext (by show (4096 * b.val + t.val) / 4096 = b.val; omega)
theorem tOf_row (b : Fin 4) (t : Fin 4096) : tOf (row b t) = t :=
  Fin.ext (by show (4096 * b.val + t.val) % 4096 = t.val; omega)

/-- The word that holds a row's time step. -/
theorem time_word (i : Fin 16384) : k0_pay1428 (ix2 i 0) = BitVec.ofNat 32 (i.val % 4096) := by
  pointwise [k0_pay1428]
  have h := i.isLt
  have e : Scalar.select (Scalar.cmpi CmpIPredicate.eq 4096#32 0#32) 1#32 4096#32 = 4096#32 := rfl
  rw [e, Routing.remsi_word .vector (by omega) (by omega) (by omega)]
  have hs : IntOp.cmpi CmpIPredicate.slt (BitVec.ofNat 32 (i.val % 4096)) 0#32 = 0#1 := by word_omega
  have hx : IntOp.xori 0#1 (Scalar.cmpi CmpIPredicate.slt 4096#32 0#32) = 0#1 := rfl
  have ha : ∀ x : BitVec 1, IntOp.andi 0#1 x = 0#1 := by decide
  rw [hs, hx, ha]
  rfl

/-- The word that holds a pixel's column. -/
theorem col_word (i : Fin 4096) : k0_pay1446 (ix2 i 0) = BitVec.ofNat 32 (i.val % 64) := by
  pointwise [k0_pay1446]
  have h := i.isLt
  have e : Scalar.select (Scalar.cmpi CmpIPredicate.eq 64#32 0#32) 1#32 64#32 = 64#32 := rfl
  rw [e, Routing.remsi_word .vector (by omega) (by omega) (by omega)]
  have hs : IntOp.cmpi CmpIPredicate.slt (BitVec.ofNat 32 (i.val % 64)) 0#32 = 0#1 := by word_omega
  have hx : IntOp.xori 0#1 (Scalar.cmpi CmpIPredicate.slt 64#32 0#32) = 0#1 := rfl
  have ha : ∀ x : BitVec 1, IntOp.andi 0#1 x = 0#1 := by decide
  rw [hs, hx, ha]
  rfl

/-- The input blocks' entries as functions. -/
abbrev pix (x0 : Vec Ideal S4x4096x64 .f32) : Seq 64 := fun b t x => x0 (ix3 b t x)
abbrev inW (x1 : Vec Ideal S256x64 .f32) : Fin 256 → Fin 64 → EReal := fun e x => x1 (ix2 e x)

/-- The projection, row by row. -/
theorem proj_at (x0 : Vec Ideal S4x4096x64 .f32) (x1 : Vec Ideal S256x64 .f32) (i : Fin 16384) (e : Fin 256) :
    k0_pay1425 x0 x1 (ix2 i e) = Mamba.Spec.proj (pix x0) (inW x1) (bOf i) (tOf i) e := by
  pointwise [k0_pay1425, k0_pay1424]
  rfl

/-- The first half of the projection. -/
theorem u0_at (x0 : Vec Ideal S4x4096x64 .f32) (x1 : Vec Ideal S256x64 .f32) (i : Fin 16384) (d : Fin 128) :
    k0_pay1426 x0 x1 (ix2 i d) = Mamba.Spec.proj (pix x0) (inW x1) (bOf i) (tOf i) ⟨d.val, by omega⟩ := by
  pointwise [k0_pay1426, proj_at]

/-- A choice by a word's being at least another. -/
theorem select_ge {a n : Nat} (ha : a < 16384) (hn : n < 16384) (x y : EReal) :
    Scalar.select (IntOp.cmpi CmpIPredicate.sge (BitVec.ofNat 32 a) (BitVec.ofNat 32 n)) x y = if n ≤ a then x else y := by
  have h : IntOp.cmpi CmpIPredicate.sge (BitVec.ofNat 32 a) (BitVec.ofNat 32 n) = BitVec.ofBool (decide (n ≤ a)) := by
    word_omega
  rw [h]
  by_cases hc : n ≤ a <;> simp [hc, Scalar.select]

/-- The recurrence's input, before the convolution. -/
abbrev u0S (x0 : Vec Ideal S4x4096x64 .f32) (x1 : Vec Ideal S256x64 .f32) : Seq 128 := fun b t d =>
  Mamba.Spec.proj (pix x0) (inW x1) b t ⟨d.val, by omega⟩

/-- The gate's input. -/
abbrev zS (x0 : Vec Ideal S4x4096x64 .f32) (x1 : Vec Ideal S256x64 .f32) : Seq 128 := fun b t d =>
  Mamba.Spec.proj (pix x0) (inW x1) b t ⟨128 + d.val, by omega⟩

/-- The value some steps earlier, as the kernel masks it. -/
theorem earlier_at (n : Nat) (hn : n < 4096) (u : Seq 128) (i : Fin 16384) (d : Fin 128) :
    (if n ≤ i.val % 4096 then (if h : i.val < n then 0 else u (bOf ⟨i.val - n, by omega⟩) (tOf ⟨i.val - n, by omega⟩) d) else 0)
      = Mamba.Spec.earlier n u (bOf i) (tOf i) d := by
  unfold Mamba.Spec.earlier
  by_cases h : n ≤ i.val % 4096
  · rw [if_pos h, if_pos h, dif_neg (by omega)]
    have e1 : bOf ⟨i.val - n, by omega⟩ = bOf i := Fin.ext (by show (i.val - n) / 4096 = i.val / 4096; omega)
    have e2 : tOf ⟨i.val - n, by omega⟩ = ⟨i.val % 4096 - n, by omega⟩ :=
      Fin.ext (by show (i.val - n) % 4096 = i.val % 4096 - n; omega)
    rw [e1, e2]
  · rw [if_neg h, if_neg h]

/-- The first half of the projection a step earlier, masked at the start of each batch element. -/
theorem u1_at (x0 : Vec Ideal S4x4096x64 .f32) (x1 : Vec Ideal S256x64 .f32) (i : Fin 16384) (d : Fin 128) :
    k0_pay1430 x0 x1 (ix2 i d) = Mamba.Spec.earlier 1 (u0S x0 x1) (bOf i) (tOf i) d := by
  pointwise [k0_pay1430, time_word, u0_at]
  rw [select_ge (by omega) (by omega)]
  exact earlier_at 1 (by omega) (u0S x0 x1) i d

/-- The recurrence's input. -/
abbrev uS (x0 : Vec Ideal S4x4096x64 .f32) (x1 : Vec Ideal S256x64 .f32) (x2 : Vec Ideal S3x128 .f32) (x3 : Vec Ideal S1x128 .f32) :
    Seq 128 := fun b t d =>
  Mamba.Spec.silu (Mamba.Spec.conv (u0S x0 x1) (fun n d => x2 (ix2 n d)) (fun d => x3 (ix2 0 d)) b t d)

theorem u_at (x0 : Vec Ideal S4x4096x64 .f32) (x1 : Vec Ideal S256x64 .f32) (x2 : Vec Ideal S3x128 .f32) (x3 : Vec Ideal S1x128 .f32)
    (i : Fin 16384) (d : Fin 128) : uK x0 x1 x2 x3 (ix2 i d) = uS x0 x1 x2 x3 (bOf i) (tOf i) d := by
  pointwise [uK, cw0, cw1, cw2, k0_pay1433, k0_pay1429, k0_pay1431, k0_pay1432, time_word, u0_at, u1_at]
  have e : Scalar.select (IntOp.cmpi CmpIPredicate.sge (BitVec.ofNat 32 (i.val % 4096)) 2#32)
      ((if h : i.val < 2 then 0 else u0S x0 x1 (bOf ⟨i.val - 2, by omega⟩) (tOf ⟨i.val - 2, by omega⟩) d) * x2 (ix2 0 d)) 0
      = Mamba.Spec.earlier 2 (u0S x0 x1) (bOf i) (tOf i) d * x2 (ix2 0 d) := by
    rw [select_ge (by omega) (by omega), ← earlier_at 2 (by omega)]
    split <;> simp only [zero_mul]
  simp only [e]
  unfold uS Mamba.Spec.silu Mamba.Spec.conv
  have e2 : ∀ a b c d : EReal, a + b + c + d = c + b + a + d := fun a b c d => by
    rw [add_assoc a b c, add_comm a, add_comm b c]
  rw [e2]

/-- The recurrence's steps. -/
abbrev dtS (u : Seq 128) (x4 : Vec Ideal S128x128 .f32) (x5 : Vec Ideal S1x128 .f32) : Seq 128 := fun b t d =>
  Mamba.Spec.softplus ((∑ k, u b t k * x4 (ix2 k d)) + x5 (ix2 0 d))

theorem dt_at (x0 : Vec Ideal S4x4096x64 .f32) (x1 : Vec Ideal S256x64 .f32) (x2 : Vec Ideal S3x128 .f32) (x3 : Vec Ideal S1x128 .f32)
    (x4 : Vec Ideal S128x128 .f32) (x5 : Vec Ideal S1x128 .f32) (i : Fin 16384) (d : Fin 128) :
    dtK x0 x1 x2 x3 x4 x5 (ix2 i d) = dtS (uS x0 x1 x2 x3) x4 x5 (bOf i) (tOf i) d := by
  have hu : ∀ d, k0_pay1433 (k0_pay1426 x0 x1) (k0_pay1429 x0 x1) (k0_pay1430 x0 x1) k0_pay1431 k0_pay1432
    (cw2 x2) (cw1 x2) (cw0 x2) x3 (ix2 i d) = uS x0 x1 x2 x3 (bOf i) (tOf i) d := u_at x0 x1 x2 x3 i
  pointwise [dtK, k0_pay1435, k0_pay1434, hu]
  rw [if_neg (by simp), zero_sub]
  rfl

theorem bc_at (u : FVec Ideal S16384x128 .f32) (x6 : Vec Ideal S32x128 .f32) (U : Seq 128)
    (hu : ∀ (i : Fin 16384) d, u (ix2 i d) = U (bOf i) (tOf i) d) (i : Fin 16384) (s : Fin 32) :
    bcK u x6 (ix2 s i) = Mamba.Spec.proj U (fun s k => x6 (ix2 s k)) (bOf i) (tOf i) s := by
  pointwise [bcK, k0_pay1437, hu]
  unfold Mamba.Spec.proj
  simp only [mul_comm]

/-- The residual stream, from the recurrence's outputs `y`. -/
theorem res_at (x0 : Vec Ideal S4x4096x64 .f32) (x1 : Vec Ideal S256x64 .f32) (y : Vec Ideal S16384x128 .f32)
    (x8 : Vec Ideal S1x128 .f32) (u : FVec Ideal S16384x128 .f32) (x9 : Vec Ideal S64x128 .f32) (Y U : Seq 128)
    (hy : ∀ (i : Fin 16384) d, y (ix2 i d) = Y (bOf i) (tOf i) d)
    (hu : ∀ (i : Fin 16384) d, u (ix2 i d) = U (bOf i) (tOf i) d) (i : Fin 16384) (x : Fin 64) :
    resK x0 x1 y x8 (k0_pay1436 u) x9 (ix2 i x)
      = Mamba.Spec.resid (pix x0) Y U (zS x0 x1) (fun d => x8 (ix2 0 d)) (fun x d => x9 (ix2 x d)) (bOf i) (tOf i) x := by
  pointwise [resK, k0_pay1436, k0_pay1445, k0_pay1424, k0_pay1444, k0_pay1427, proj_at, hy, hu]
  rfl

end Cert.Proof.KI
end
-- ==== Proof.KI.Read2.lean ====
/- The kernel's stages after the recurrence, index by index. -/
module

public import proofs.«01_k».proof.Proof.KI.Read1

@[expose] public section

set_option maxRecDepth 16384

noncomputable section

namespace Cert.Proof.KI

open Cert.KernelIdeal Cert.KernelIdeal.Gen
open Idealize.ShloMosaic Idealize.ShloMosaic.TcCoe
open Mamba.Spec (Seq near)

/-- A choice by a word's being other than another. -/
theorem select_ne {a n : Nat} (ha : a < 16384) (hn : n < 16384) (x y : EReal) :
    Scalar.select (IntOp.cmpi CmpIPredicate.ne (BitVec.ofNat 32 a) (BitVec.ofNat 32 n)) x y = if a ≠ n then x else y := by
  have h : IntOp.cmpi CmpIPredicate.ne (BitVec.ofNat 32 a) (BitVec.ofNat 32 n) = BitVec.ofBool (decide (a ≠ n)) := by
    word_omega
  rw [h]
  by_cases hc : a = n <;> simp [hc, Scalar.select]

section Taps

variable (r : FVec Ideal S4096x64 .f32) (R : Seq 64) (b : Fin 4) (hr : ∀ p x, r (ix2 p x) = R b p x)
include hr

/-- A shift down by `n = 65 - 64 dy - dx` pixels, masked by the column, is a neighbour. -/
theorem near_down (n dy dx : Nat) (hn : n + 64 * dy + dx = 65) (hdx : dx ≤ 2) (p : Fin 4096) (x : Fin 64)
    (c : Prop) [Decidable c] (hc : c ↔ 1 ≤ p.val % 64 + dx ∧ p.val % 64 + dx ≤ 64) :
    (if c then (if h : p.val < n then (0 : EReal) else r (ix2 ⟨p.val - n, by omega⟩ x)) else 0) = near R dy dx b p x := by
  unfold near
  by_cases h1 : c
  · rw [if_pos h1]
    have h1' := hc.1 h1
    by_cases h2 : p.val < n
    · rw [dif_pos h2, dif_neg (by omega)]
    · rw [dif_neg h2, dif_pos (by omega), hr]
      have e : (⟨p.val - n, by omega⟩ : Fin 4096) = ⟨p.val + 64 * dy + dx - 65, by omega⟩ :=
        Fin.ext (by show p.val - n = p.val + 64 * dy + dx - 65; omega)
      rw [e]
  · rw [if_neg h1, dif_neg (fun h => h1 (hc.2 h.2))]

/-- A shift up by `n = 64 dy + dx - 65` pixels, masked by the column, is a neighbour. -/
theorem near_up (n dy dx : Nat) (hn : 64 * dy + dx = 65 + n) (hdx : dx ≤ 2) (p : Fin 4096) (x : Fin 64)
    (c : Prop) [Decidable c] (hc : c ↔ 1 ≤ p.val % 64 + dx ∧ p.val % 64 + dx ≤ 64) :
    (if c then (if h : p.val < 4096 - n then r (ix2 ⟨n + p.val, by omega⟩ x) else (0 : EReal)) else 0) = near R dy dx b p x := by
  unfold near
  by_cases h1 : c
  · rw [if_pos h1]
    have h1' := hc.1 h1
    by_cases h2 : p.val < 4096 - n
    · rw [dif_pos h2, dif_pos (by omega), hr]
      have e : (⟨n + p.val, by omega⟩ : Fin 4096) = ⟨p.val + 64 * dy + dx - 65, by omega⟩ :=
        Fin.ext (by show n + p.val = p.val + 64 * dy + dx - 65; omega)
      rw [e]
    · rw [dif_neg h2, dif_neg (by omega)]
  · rw [if_neg h1, dif_neg (fun h => h1 (hc.2 h.2))]

/-- The nine taps are the nine neighbours. -/
theorem taps_at (dy dx : Fin 3) (p : Fin 4096) (x : Fin 64) :
    taps r ⟨3 * dy.val + dx.val, by omega⟩ (ix2 p x) = near R dy.val dx.val b p x := by
  have hp := p.isLt
  fin_cases dy <;> fin_cases dx
  · show notFirst (down65 r) (ix2 p x) = near R 0 0 b p x
    pointwise [notFirst, down65, col_word]
    rw [select_ne (by omega) (by omega)]
    exact near_down r R b hr 65 0 0 rfl (by omega) p x _ (by omega)
  · show down64 r (ix2 p x) = near R 0 1 b p x
    pointwise [down64]
    exact (if_pos trivial).symm.trans (near_down r R b hr 64 0 1 rfl (by omega) p x True (iff_of_true trivial (by omega)))
  · show notLast (down63 r) (ix2 p x) = near R 0 2 b p x
    pointwise [notLast, down63, col_word]
    rw [select_ne (by omega) (by omega)]
    exact near_down r R b hr 63 0 2 rfl (by omega) p x _ (by omega)
  · show notFirst (down1 r) (ix2 p x) = near R 1 0 b p x
    pointwise [notFirst, down1, col_word]
    rw [select_ne (by omega) (by omega)]
    exact near_down r R b hr 1 1 0 rfl (by omega) p x _ (by omega)
  · show r (ix2 p x) = near R 1 1 b p x
    rw [← near_up r R b hr 0 1 1 rfl (by omega) p x True (iff_of_true trivial (by omega)), if_pos trivial, dif_pos (by omega)]
    have e : (⟨0 + p.val, by omega⟩ : Fin 4096) = p := Fin.ext (Nat.zero_add _)
    rw [e]
  · show notLast (up1 r) (ix2 p x) = near R 1 2 b p x
    pointwise [notLast, up1, col_word]
    rw [select_ne (by omega) (by omega)]
    exact near_up r R b hr 1 1 2 rfl (by omega) p x _ (by omega)
  · show notFirst (up63 r) (ix2 p x) = near R 2 0 b p x
    pointwise [notFirst, up63, col_word]
    rw [select_ne (by omega) (by omega)]
    exact near_up r R b hr 63 2 0 rfl (by omega) p x _ (by omega)
  · show up64 r (ix2 p x) = near R 2 1 b p x
    pointwise [up64]
    exact (if_pos trivial).symm.trans (near_up r R b hr 64 2 1 rfl (by omega) p x True (iff_of_true trivial (by omega)))
  · show notLast (up65 r) (ix2 p x) = near R 2 2 b p x
    pointwise [notLast, up65, col_word]
    rw [select_ne (by omega) (by omega)]
    exact near_up r R b hr 65 2 2 rfl (by omega) p x _ (by omega)

end Taps

theorem part_at (t : FVec Ideal S4096x64 .f32) (w : Vec Ideal S1x128x64 .f32) (p : Fin 4096) (o : Fin 128) :
    part t w (ix2 p o) = ∑ x, t (ix2 p x) * w (ix3 0 o x) := by
  pointwise [part]

theorem tapW_at (x10 : Vec Ideal S9x128x64 .f32) (n : Fin 9) (o : Fin 128) (x : Fin 64) :
    tapW x10 n (ix3 0 o x) = x10 (ix3 n o x) := by
  fin_cases n <;> (dsimp only [tapW, Matrix.cons_val]; pointwise [])

/-- The image's convolution. -/
theorem conv9_at (r : FVec Ideal S4096x64 .f32) (R : Seq 64) (b : Fin 4) (hr : ∀ p x, r (ix2 p x) = R b p x)
    (x10 : Vec Ideal S9x128x64 .f32) (p : Fin 4096) (o : Fin 128) :
    conv9 r (tapW x10) (ix2 p o)
      = Mamba.Spec.conv9 R (fun o x dy dx => x10 (ix3 ⟨3 * dy.val + dx.val, by omega⟩ o x)) b p o := by
  have h : ∀ dy dx : Fin 3, part (taps r ⟨3 * dy.val + dx.val, by omega⟩) (tapW x10 ⟨3 * dy.val + dx.val, by omega⟩) (ix2 p o)
      = Mamba.Spec.tap R (fun o x dy dx => x10 (ix3 ⟨3 * dy.val + dx.val, by omega⟩ o x)) dy dx b p o := fun dy dx => by
    rw [part_at]
    simp only [taps_at r R b hr, tapW_at]
    rfl
  unfold conv9 Mamba.Spec.conv9
  simp only [← h]
  rfl

theorem skipHwc_at (a : FVec Ideal S4096x128 .f32) (x11 x12 : Vec Ideal S1x128 .f32) (p : Fin 4096) (o : Fin 128) :
    skipHwc a x11 x12 (ix2 p o) = max (a (ix2 p o) * x11 (ix2 0 o) + x12 (ix2 0 o)) 0 := by
  pointwise [skipHwc,k0_pay1454,k0_pay1453]

theorem img_at (res : FVec Ideal S16384x64 .f32) (b : Fin 4) (p : Fin 4096) (x : Fin 64) :
    img res b (ix2 p x) = res (ix2 (row b p) x) := by
  fin_cases b
  all_goals
    dsimp only [img, Matrix.cons_val]
    pointwise []
    refine congrArg (fun i => res (ix2 i x)) (Fin.ext ?_)
    dsimp only [row]
    omega

theorem skipBlk_at (s : FVec Ideal S4096x128 .f32) (o : Fin 128) (p : Fin 4096)  :
    skipBlk s (ix3 0 o p) = s (ix2 p o) := by
  pointwise [skipBlk]

section Pool
variable (s : FVec Ideal S4096x128 .f32) (S : Seq 128) (b : Fin 4) (hs : ∀ p o, s (ix2 p o) = S b p o)
include hs

theorem poolMax_at (q : Fin 1024) (o : Fin 128) : poolMax s (ix2 q o) = Mamba.Spec.wmax S b q o := by
  pointwise [poolMax, evenRows, oddRows, hs]
  rw [Fin.univ_succ]
  have e : Ideal.ofBits .f32 4286578688#32 = ⊥ := by simp [Ideal.ofBits, Ideal.ieee]
  simp [e]
  rfl

theorem poolMean_at (q : Fin 1024) (o : Fin 128) : poolMean s (ix2 q o) = Mamba.Spec.wmean S b q o := by
  pointwise [poolMean, evenRows, oddRows, hs]
  rw [Fin.sum_univ_two]
  rfl

/-- The second result's block. -/
theorem downBlk_at (x13 : Vec Ideal S128x256 .f32) (x14 : Vec Ideal S1x128 .f32) (o : Fin 128) (q : Fin 1024) :
    downBlk s x13 x14 (ix3 0 o q) = Mamba.Spec.mix S (fun o k => x13 (ix2 o k)) (fun o => x14 (ix2 0 o)) b q o := by
  pointwise [downBlk, mixK, gateK, poolMax_at s S b hs, poolMean_at s S b hs]
  rfl

end Pool

/-- A batch element's normalised image, from the residual stream. -/
theorem skipOf_at (res : FVec Ideal S16384x64 .f32) (R : Seq 64) (hr : ∀ (i : Fin 16384) x, res (ix2 i x) = R (bOf i) (tOf i) x)
    (x10 : Vec Ideal S9x128x64 .f32) (x11 x12 : Vec Ideal S1x128 .f32) (b : Fin 4) (p : Fin 4096) (o : Fin 128) :
    skipOf res x10 x11 x12 b (ix2 p o)
      = max (Mamba.Spec.conv9 R (fun o x dy dx => x10 (ix3 ⟨3 * dy.val + dx.val, by omega⟩ o x)) b p o * x11 (ix2 0 o)
          + x12 (ix2 0 o)) 0 := by
  unfold skipOf
  rw [skipHwc_at, conv9_at (img res b) R b]
  intro p x
  rw [img_at, hr, bOf_row, tOf_row]

end Cert.Proof.KI

end
-- ==== Proof.KI.Opened.lean ====
/- What the body leaves in the two result blocks, as the stages' functions of the input blocks. -/
module

public import proofs.«01_k».proof.Proof.KI.Run
public import proofs.«01_k».proof.Proof.KI.Stages
public import Idealize.ShloMosaic.Lib.Pipeline.ValueKit

@[expose] public section

set_option maxRecDepth 16384

noncomputable section

namespace Cert.Proof.KI

open Cert.KernelIdeal Cert.KernelIdeal.Gen
open Idealize.ShloMosaic Idealize.ShloMosaic.TcCoe Idealize.ShloMosaic.Tactic

variable {F : FTy → Type} [FloatOps F]

/-- What the recurrence leaves in the buffer of steps, the inputs and columns being `u` and `bc`. -/
def yK (arg18 arg19 : Memref sig .tc .vmem S16384x128 .f32) (arg20 : Memref sig .tc .vmem S32x16384 .f32)
    (dt u : FVec F S16384x128 .f32) (bc : FVec F S32x16384 .f32) (x7 : Vec F S16x128 .f32) : Vec F S16384x128 .f32 :=
  View.read (Elt F) arg18.view (Mamba.scanBuf arg18 arg19 arg20 (k0_pay1438 x7)
    (arg19.view.writes (Elt F) arg19.view.junk [⟨Rect.unit ![0, 0] S16384x128.size inb_S16384x128_S16384x128_0_0, k0_pay1436 u⟩])
    (arg20.view.writes (Elt F) arg20.view.junk [⟨Rect.unit ![0, 0] S32x16384.size inb_S32x16384_S32x16384_0_0, bc⟩])
    (arg18.view.writes (Elt F) arg18.view.junk [⟨Rect.unit ![0, 0] S16384x128.size inb_S16384x128_S16384x128_0_0, dt⟩])
    (k0_pay1439, k0_pay1440, k0_pay1441, k0_pay1442) 32)

section
variable (c : Dev nD) (i : grid0.Coords)
    (arg1 : Memref sig .tc .vmem S4x4096x64 .f32) (harg1 : arg1.IsWhole)
    (arg2 : Memref sig .tc .vmem S256x64 .f32) (harg2 : arg2.IsWhole)
    (arg3 : Memref sig .tc .vmem S3x128 .f32) (harg3 : arg3.IsWhole)
    (arg4 : Memref sig .tc .vmem S1x128 .f32) (harg4 : arg4.IsWhole)
    (arg5 : Memref sig .tc .vmem S128x128 .f32) (harg5 : arg5.IsWhole)
    (arg6 : Memref sig .tc .vmem S1x128 .f32) (harg6 : arg6.IsWhole)
    (arg7 : Memref sig .tc .vmem S32x128 .f32) (harg7 : arg7.IsWhole)
    (arg8 : Memref sig .tc .vmem S16x128 .f32) (harg8 : arg8.IsWhole)
    (arg9 : Memref sig .tc .vmem S1x128 .f32) (harg9 : arg9.IsWhole)
    (arg10 : Memref sig .tc .vmem S64x128 .f32) (harg10 : arg10.IsWhole)
    (arg11 : Memref sig .tc .vmem S9x128x64 .f32) (harg11 : arg11.IsWhole)
    (arg12 : Memref sig .tc .vmem S1x128 .f32) (harg12 : arg12.IsWhole)
    (arg13 : Memref sig .tc .vmem S1x128 .f32) (harg13 : arg13.IsWhole)
    (arg14 : Memref sig .tc .vmem S128x256 .f32) (harg14 : arg14.IsWhole)
    (arg15 : Memref sig .tc .vmem S1x128 .f32) (harg15 : arg15.IsWhole)
    (arg16 : Memref sig .tc .vmem S4x128x4096 .f32) (harg16 : arg16.IsWhole)
    (arg17 : Memref sig .tc .vmem S4x128x1024 .f32) (harg17 : arg17.IsWhole)
    (arg18 : Memref sig .tc .vmem S16384x128 .f32) (harg18 : arg18.IsWhole)
    (arg19 : Memref sig .tc .vmem S16384x128 .f32) (harg19 : arg19.IsWhole)
    (arg20 : Memref sig .tc .vmem S32x16384 .f32) (harg20 : arg20.IsWhole)
    (x0 : Vec F S4x4096x64 .f32) (x1 : Vec F S256x64 .f32) (x2 : Vec F S3x128 .f32) (x3 : Vec F S1x128 .f32) (x4 : Vec F S128x128 .f32) (x5 : Vec F S1x128 .f32) (x6 : Vec F S32x128 .f32) (x7 : Vec F S16x128 .f32) (x8 : Vec F S1x128 .f32) (x9 : Vec F S64x128 .f32) (x10 : Vec F S9x128x64 .f32) (x11 : Vec F S1x128 .f32) (x12 : Vec F S1x128 .f32) (x13 : Vec F S128x256 .f32) (x14 : Vec F S1x128 .f32)

/-- The recurrence's outputs, from the input blocks. -/
abbrev yOf : Vec F S16384x128 .f32 :=
  yK arg18 arg19 arg20 (dtK x0 x1 x2 x3 x4 x5) (uK x0 x1 x2 x3) (bcK (uK x0 x1 x2 x3) x6) x7

/-- The residual stream, from the input blocks. -/
abbrev resOf : FVec F S16384x64 .f32 :=
  resK x0 x1 (yOf arg18 arg19 arg20 x0 x1 x2 x3 x4 x5 x6 x7) x8 (k0_pay1436 (uK x0 x1 x2 x3)) x9

/-- The value the run finds for the projection of the gated outputs, opened. -/
theorem out_eq : kernelRun.sl.r_8 (F := F) arg1 harg1 arg2 harg2 arg3 harg3 arg4 harg4 arg5 harg5 arg6 harg6 arg7 harg7 arg8 harg8 arg9 harg9 arg10 harg10 arg18 arg19 arg20 x0 x1 x2 x3 x4 x5 x6 x7 x8 x9
    = k0_pay1444 (k0_pay1427 x0 x1) (yOf arg18 arg19 arg20 x0 x1 x2 x3 x4 x5 x6 x7) x8 (k0_pay1436 (uK x0 x1 x2 x3)) x9 := by
  simp (disch := decide) only [kernelRun.sl.r_8, kernelRun.sl.r_2, kernelRun.sl.v103, kernelRun.sl.v106, kernelRun.sl.H18_1,
    kernelRun.sl.H19_1, kernelRun.sl.r_6, kernelRun.sl.r_5, kernelRun.sl.r_7, kernelRun.sl.r_4, kernelRun.sl.r_3, kernelRun.sl.r_1,
    View.readAt_eq_ld, View.ld_unit_lit', View.readCov_unit_lit', Memref.IsWhole.read_unread]
  sl_kernel_rfl

/-- Four pieces' payloads equal, the pieces' contents are equal. -/
theorem canon4 {S : Shape} {r0 r1 r2 r3 : Rect S} {p0 q0 : r0.shape.Idx → Elt F .f32} {p1 q1 : r1.shape.Idx → Elt F .f32}
    {p2 q2 : r2.shape.Idx → Elt F .f32} {p3 q3 : r3.shape.Idx → Elt F .f32} (h3 : p3 = q3) (h2 : p2 = q2) (h1 : p1 = q1)
    (h0 : p0 = q0) :
    View.canon (Val := Elt F) (s := S) (e := .f32) [⟨r3, p3⟩, ⟨r2, p2⟩, ⟨r1, p1⟩, ⟨r0, p0⟩] = View.canon [⟨r3, q3⟩, ⟨r2, q2⟩, ⟨r1, q1⟩, ⟨r0, q0⟩] := by
  subst h0 h1 h2 h3; rfl

/-- The first result's block is the four batch elements' blocks, each put at its place. -/
theorem skip_eq : (kernelRun (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 x14).1.1
    = View.canon [⟨Rect.unit (s := S4x128x4096) ![3, 0, 0] S1x128x4096.size inb_S4x128x4096_S1x128x4096_3_0_0,
        skipBlk (skipOf (resOf arg18 arg19 arg20 x0 x1 x2 x3 x4 x5 x6 x7 x8 x9) x10 x11 x12 3)⟩,
      ⟨Rect.unit (s := S4x128x4096) ![2, 0, 0] S1x128x4096.size inb_S4x128x4096_S1x128x4096_2_0_0,
        skipBlk (skipOf (resOf arg18 arg19 arg20 x0 x1 x2 x3 x4 x5 x6 x7 x8 x9) x10 x11 x12 2)⟩,
      ⟨Rect.unit (s := S4x128x4096) ![1, 0, 0] S1x128x4096.size inb_S4x128x4096_S1x128x4096_1_0_0,
        skipBlk (skipOf (resOf arg18 arg19 arg20 x0 x1 x2 x3 x4 x5 x6 x7 x8 x9) x10 x11 x12 1)⟩,
      ⟨Rect.unit (s := S4x128x4096) ![0, 0, 0] S1x128x4096.size inb_S4x128x4096_S1x128x4096_0_0_0,
        skipBlk (skipOf (resOf arg18 arg19 arg20 x0 x1 x2 x3 x4 x5 x6 x7 x8 x9) x10 x11 x12 0)⟩] := by
  dsimp only [kernelRun]
  rw [View.read_writes_junk_eq_canon]
  simp (disch := decide) only [kernelRun.sl.H15_4, kernelRun.sl.r, kernelRun.sl.cst_285, kernelRun.sl.r_9, kernelRun.sl.r_10, kernelRun.sl.r_11,
    kernelRun.sl.r_12, kernelRun.sl.r_13, kernelRun.sl.r_14, kernelRun.sl.r_15, kernelRun.sl.r_16,
    kernelRun.sl.r_17, kernelRun.sl.r_18, kernelRun.sl.r_19, kernelRun.sl.r_20, kernelRun.sl.r_21,
    kernelRun.sl.r_22, kernelRun.sl.r_23, kernelRun.sl.r_24, kernelRun.sl.r_25, kernelRun.sl.r_26,
    kernelRun.sl.r_27, kernelRun.sl.r_28, kernelRun.sl.r_29, kernelRun.sl.r_30, kernelRun.sl.r_31,
    kernelRun.sl.r_32, kernelRun.sl.r_33, kernelRun.sl.r_34, kernelRun.sl.r_35, kernelRun.sl.r_36,
    kernelRun.sl.r_37, kernelRun.sl.r_38, kernelRun.sl.r_39, kernelRun.sl.r_40, kernelRun.sl.r_41,
    kernelRun.sl.r_42, kernelRun.sl.r_43, kernelRun.sl.r_44, kernelRun.sl.r_45,
    View.readAt_eq_ld, View.ld_unit_lit', Memref.IsWhole.read_unread]
  unfold resOf resK
  rw [out_eq]
  generalize k0_pay1444 (F := F) _ _ _ _ _ = b
  generalize k0_pay1424 (F := F) _ = a
  refine canon4 ?_ ?_ ?_ ?_ <;> sl_kernel_rfl

/-- The second result's block likewise. -/
theorem down_eq : (kernelRun (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 x14).1.2
    = View.canon [⟨Rect.unit (s := S4x128x1024) ![3, 0, 0] S1x128x1024.size inb_S4x128x1024_S1x128x1024_3_0_0,
        downBlk (skipOf (resOf arg18 arg19 arg20 x0 x1 x2 x3 x4 x5 x6 x7 x8 x9) x10 x11 x12 3) x13 x14⟩,
      ⟨Rect.unit (s := S4x128x1024) ![2, 0, 0] S1x128x1024.size inb_S4x128x1024_S1x128x1024_2_0_0,
        downBlk (skipOf (resOf arg18 arg19 arg20 x0 x1 x2 x3 x4 x5 x6 x7 x8 x9) x10 x11 x12 2) x13 x14⟩,
      ⟨Rect.unit (s := S4x128x1024) ![1, 0, 0] S1x128x1024.size inb_S4x128x1024_S1x128x1024_1_0_0,
        downBlk (skipOf (resOf arg18 arg19 arg20 x0 x1 x2 x3 x4 x5 x6 x7 x8 x9) x10 x11 x12 1) x13 x14⟩,
      ⟨Rect.unit (s := S4x128x1024) ![0, 0, 0] S1x128x1024.size inb_S4x128x1024_S1x128x1024_0_0_0,
        downBlk (skipOf (resOf arg18 arg19 arg20 x0 x1 x2 x3 x4 x5 x6 x7 x8 x9) x10 x11 x12 0) x13 x14⟩] := by
  dsimp only [kernelRun]
  rw [View.read_writes_junk_eq_canon]
  simp (disch := decide) only [kernelRun.sl.H16_4, kernelRun.sl.r, kernelRun.sl.cst_285, kernelRun.sl.r_9, kernelRun.sl.r_10, kernelRun.sl.r_11,
    kernelRun.sl.r_12, kernelRun.sl.r_13, kernelRun.sl.r_14, kernelRun.sl.r_15, kernelRun.sl.r_16,
    kernelRun.sl.r_17, kernelRun.sl.r_18, kernelRun.sl.r_19, kernelRun.sl.r_20, kernelRun.sl.r_21,
    kernelRun.sl.r_22, kernelRun.sl.r_23, kernelRun.sl.r_24, kernelRun.sl.r_25, kernelRun.sl.r_26,
    kernelRun.sl.r_27, kernelRun.sl.r_28, kernelRun.sl.r_29, kernelRun.sl.r_30, kernelRun.sl.r_31,
    kernelRun.sl.r_32, kernelRun.sl.r_33, kernelRun.sl.r_34, kernelRun.sl.r_35, kernelRun.sl.r_36,
    kernelRun.sl.r_37, kernelRun.sl.r_38, kernelRun.sl.r_39, kernelRun.sl.r_40, kernelRun.sl.r_41,
    kernelRun.sl.r_42, kernelRun.sl.r_43, kernelRun.sl.r_44, kernelRun.sl.r_45,
    View.readAt_eq_ld, View.ld_unit_lit', Memref.IsWhole.read_unread]
  unfold resOf resK
  rw [out_eq]
  generalize k0_pay1444 (F := F) _ _ _ _ _ = b
  generalize k0_pay1424 (F := F) _ = a
  refine canon4 ?_ ?_ ?_ ?_ <;> sl_kernel_rfl

end
end Cert.Proof.KI

end
-- ==== Proof.Mamba.Read.lean ====
/- The recurrence's loop read index by index: after it the buffer of steps holds the recurrence's outputs. -/
module

public import proofs.«01_k».proof.Proof.Mamba.Trip
public import proofs.«01_k».proof.Proof.Mamba.Spec
public import Idealize.ShloMosaic.Lib.WritesUnit
public import Idealize.ShloMosaic.Lib.VecWindow

@[expose] public section

set_option maxRecDepth 16384

noncomputable section

namespace Mamba

open Idealize.ShloMosaic Idealize.ShloMosaic.TcCoe
open Mamba.Spec (Seq)

/-! ## One step's values -/

/-- The state after a time step. -/
theorem stepH_at (at96 : FVec Ideal T16x128 .f32) (dt : Vec Ideal T128x128 .f32) (du : FVec Ideal T128x128 .f32)
    (bc : Vec Ideal T32x128 .f32) (n : Nat) (hn : n < 128) (h : FVec Ideal T16x128 .f32) (s : Fin 16) (d : Fin 128) :
    stepH (decay at96 dt ⟨n / 16, by omega⟩) du bc ⟨n, hn⟩ ⟨n % 16, by omega⟩ h (ix2 s d)
      = Ideal.exp (dt (ix2 ⟨n, hn⟩ d) * at96 (ix2 s d)) * h (ix2 s d) + du (ix2 ⟨n, hn⟩ d) * bc (ix2 ⟨s.val, by omega⟩ ⟨n, hn⟩) := by
  pointwise [stepH, decay]
  have e : (⟨16 * (n / 16) + n % 16, by omega⟩ : Fin 128) = ⟨n, hn⟩ := Fin.ext (by show 16 * (n / 16) + n % 16 = n; omega)
  simp only [e]

/-- The row that a time step writes. -/
theorem stepY_at (bc : Vec Ideal T32x128 .f32) (j : Fin 128) (h : FVec Ideal T16x128 .f32) (d : Fin 128) :
    stepY bc j h (ix2 0 d) = ∑ s : Fin 16, h (ix2 s d) * bc (ix2 ⟨16 + s.val, by omega⟩ j) := by
  pointwise [stepY]

section Trip

variable (A : Fin 128 → Fin 16 → EReal) (DT U : Seq 128) (B C : Seq 16)
  (at96 : FVec Ideal T16x128 .f32) (hA : ∀ s d, at96 (ix2 s d) = A d s)
include hA

/-- The state after some steps of a trip. -/
theorem after_at (dt du : FVec Ideal T128x128 .f32) (bc : Vec Ideal T32x128 .f32) (h : FVec Ideal T16x128 .f32)
    (k : Nat) (hk : k < 32) (b : Fin 4)
    (hdt : ∀ (j : Fin 128) d, dt (ix2 j d) = DT b ⟨128 * k + j.val, by omega⟩ d)
    (hdu : ∀ (j : Fin 128) d, du (ix2 j d) = DT b ⟨128 * k + j.val, by omega⟩ d * U b ⟨128 * k + j.val, by omega⟩ d)
    (hbc : ∀ (s : Fin 16) (j : Fin 128), bc (ix2 ⟨s.val, by omega⟩ j) = B b ⟨128 * k + j.val, by omega⟩ s)
    (hh : ∀ s d, h (ix2 s d) = Spec.state A DT U B b d s (128 * k) (by omega)) (s : Fin 16) (d : Fin 128) :
    ∀ (n : Nat) (hn : n ≤ 128), after at96 dt du bc h n hn (ix2 s d) = Spec.state A DT U B b d s (128 * k + n) (by omega)
  | 0, _ => hh s d
  | n + 1, hn => by
    rw [after, stepH_at, after_at dt du bc h k hk b hdt hdu hbc hh s d n (by omega), hdt, hdu, hbc, hA]
    rfl

end Trip

/-! ## The buffer, row by row -/

section Buffer

variable {sig : RefSig}
variable (ys : Memref sig .tc .vmem T16384x128 .f32) (us : Memref sig .tc .vmem T16384x128 .f32)
  (bct : Memref sig .tc .vmem T32x16384 .f32)

/-- The batch element and the time step of a row. -/
abbrev bOf (i : Fin 16384) : Fin 4 := ⟨i.val / 4096, by omega⟩
abbrev tOf (i : Fin 16384) : Fin 4096 := ⟨i.val % 4096, by omega⟩

/-- A trip's steps of a batch element. -/
theorem dtOf_at (f : ys.view.ty.Contents (Elt Ideal)) (k : Fin trips.trips) (b : Fin 4) (j d : Fin 128) :
    dtOf ys f k b (ix2 j d)
      = ys.view.read (Elt Ideal) f (ix2 ⟨4096 * b.val + 128 * k.val + j.val, by have := trips_lt k; omega⟩ d) := by
  have hk := trips_lt k
  unfold dtOf
  rw [View.readAt_unit ys.view f (offRows_inb k b) (offRows_eq k b) (by rw [← offRows_eq]; exact offRows_inb k b)]
  refine congrArg (ys.view.read (Elt Ideal) f) (funext fun a => Fin.ext ?_)
  match a with
  | ⟨0, _⟩ => show 4096 * b.val + 128 * k.val + 1 * j.val = 4096 * b.val + 128 * k.val + j.val; omega
  | ⟨1, _⟩ => show 0 + 1 * d.val = d.val; omega

/-- A trip's columns of a batch element. -/
theorem bcOf_at (g : bct.view.ty.Contents (Elt Ideal)) (k : Fin trips.trips) (b : Fin 4) (s : Fin 32) (j : Fin 128) :
    bcOf bct g k b (ix2 s j)
      = bct.view.read (Elt Ideal) g (ix2 s ⟨4096 * b.val + 128 * k.val + j.val, by have := trips_lt k; omega⟩) := by
  have hk := trips_lt k
  unfold bcOf
  rw [View.readAt_unit bct.view g (offCols_inb k b) (offCols_eq k b) (by rw [← offCols_eq]; exact offCols_inb k b)]
  refine congrArg (bct.view.read (Elt Ideal) g) (funext fun a => Fin.ext ?_)
  match a with
  | ⟨0, _⟩ => show 0 + 1 * s.val = s.val; omega
  | ⟨1, _⟩ => show 4096 * b.val + 128 * k.val + 1 * j.val = 4096 * b.val + 128 * k.val + j.val; omega

/-- The buffer after a row is overwritten. -/
theorem rowBuf_at (k : Fin trips.trips) (b : Fin 4) (j : Fin 128) (y : FVec Ideal T1x128 .f32)
    (f : ys.view.ty.Contents (Elt Ideal)) (i : Fin 16384) (d : Fin 128) :
    ys.view.read (Elt Ideal) (rowBuf ys k b j y f) (ix2 i d)
      = if i.val = 4096 * b.val + 128 * k.val + j.val then y (ix2 0 d) else ys.view.read (Elt Ideal) f (ix2 i d) := by
  show ys.view.read (Elt Ideal) (ys.view.writes (Elt Ideal) f [⟨rowRect k b j, y⟩]) (ix2 i d) = _
  by_cases h : i.val = 4096 * b.val + 128 * k.val + j.val
  · rw [if_pos h]
    refine View.read_writes_cons_rows_of_mem ys.view f (offRow_inb k b j) y [] (ix2 i d) (ix2 0 d) (offRow_eq k b j) ?_ rfl
    show i.val = 4096 * b.val + 128 * k.val + j.val + 0
    omega
  · rw [if_neg h]
    refine View.read_writes_cons_rows_of_not_mem ys.view f (offRow_inb k b j) y [] (ix2 i d) (offRow_eq k b j) (W := 1) rfl ?_
    show i.val < _ ∨ _ ≤ i.val
    omega

/-- The buffer after the four rows of a time step are overwritten. -/
theorem stepBuf_at (k : Fin trips.trips) (y : Fin 4 → Fin 128 → FVec Ideal T1x128 .f32) (j : Fin 128)
    (f : ys.view.ty.Contents (Elt Ideal)) (i : Fin 16384) (d : Fin 128) :
    ys.view.read (Elt Ideal) (stepBuf ys k y j f) (ix2 i d)
      = if i.val % 4096 = 128 * k.val + j.val then y (bOf i) j (ix2 0 d) else ys.view.read (Elt Ideal) f (ix2 i d) := by
  have hk := trips_lt k
  have hi := i.isLt
  have hj := j.isLt
  unfold stepBuf
  simp only [rowBuf_at]
  have hb : ∀ b : Fin 4, i.val = 4096 * b.val + 128 * k.val + j.val → bOf i = b := fun b h =>
    Fin.ext (by show i.val / 4096 = b.val; omega)
  by_cases h : i.val % 4096 = 128 * k.val + j.val
  · rw [if_pos h]
    split
    · next h3 => rw [hb 3 h3]
    · split
      · next h3 => rw [hb 2 h3]
      · split
        · next h3 => rw [hb 1 h3]
        · split
          · next h3 => rw [hb 0 h3]
          · next h3 h2 h1 h0 =>
            simp only [Fin.isValue, Fin.val_zero, Fin.val_one, Fin.val_two] at h3 h2 h1 h0
            have e3 : (3 : Fin 4).val = 3 := rfl
            rw [e3] at h3
            omega
  · rw [if_neg h, if_neg, if_neg, if_neg, if_neg]
    all_goals
      intro hc
      apply h
      rw [hc]
      simp only [Fin.isValue, Fin.val_zero, Fin.val_one, Fin.val_two, show (3 : Fin 4).val = 3 from rfl]
      omega

/-- The buffer after the rows of a trip's last `m` time steps are overwritten. -/
theorem rowsBuf_at (k : Fin trips.trips) (y : Fin 4 → Fin 128 → FVec Ideal T1x128 .f32) (i : Fin 16384) (d : Fin 128) :
    ∀ (m : Nat) (hm : m ≤ 128) (f : ys.view.ty.Contents (Elt Ideal)),
    ys.view.read (Elt Ideal) (rowsBuf ys k y m hm f) (ix2 i d)
      = if h : 128 * k.val + (128 - m) ≤ i.val % 4096 ∧ i.val % 4096 < 128 * k.val + 128 then
          y (bOf i) ⟨i.val % 4096 - 128 * k.val, by omega⟩ (ix2 0 d)
        else ys.view.read (Elt Ideal) f (ix2 i d)
  | 0, _, f => by rw [dif_neg (by omega)]; rfl
  | m + 1, hm, f => by
    rw [rowsBuf, rowsBuf_at k y i d m (by omega), stepBuf_at]
    by_cases h : 128 * k.val + (128 - m) ≤ i.val % 4096 ∧ i.val % 4096 < 128 * k.val + 128
    · rw [dif_pos h, dif_pos (by omega)]
    · rw [dif_neg h]
      by_cases h2 : i.val % 4096 = 128 * k.val + (128 - (m + 1))
      · rw [if_pos h2, dif_pos (by omega)]
        have e : (⟨128 - (m + 1), by omega⟩ : Fin 128) = ⟨i.val % 4096 - 128 * k.val, by omega⟩ :=
          Fin.ext (by show 128 - (m + 1) = i.val % 4096 - 128 * k.val; omega)
        rw [e]
      · rw [if_neg h2, dif_neg (by omega)]

/-! ## The loop -/

section Loop

variable (A : Fin 128 → Fin 16 → EReal) (DT U : Seq 128) (B C : Seq 16)
  (at96 : FVec Ideal T16x128 .f32) (hA : ∀ s d, at96 (ix2 s d) = A d s)
  (fu : us.view.ty.Contents (Elt Ideal)) (hu : ∀ i d, us.view.read (Elt Ideal) fu (ix2 i d) = U (bOf i) (tOf i) d)
  (fb : bct.view.ty.Contents (Elt Ideal))
  (hB : ∀ (s : Fin 16) i, bct.view.read (Elt Ideal) fb (ix2 (Spec.lo s) i) = B (bOf i) (tOf i) s)
  (hC : ∀ (s : Fin 16) i, bct.view.read (Elt Ideal) fb (ix2 (Spec.hi s) i) = C (bOf i) (tOf i) s)
  (f : ys.view.ty.Contents (Elt Ideal)) (hf : ∀ i d, ys.view.read (Elt Ideal) f (ix2 i d) = DT (bOf i) (tOf i) d)
  (hs : States Ideal) (hs0 : ∀ b s d, hs.get b (ix2 s d) = 0)

/-- What holds before trip `k`: the rows of the earlier trips hold outputs, the others still hold steps, and the
    states are those of the recurrence. -/
def Holds (k : Nat) (hk : k ≤ 32) (p : ys.view.ty.Contents (Elt Ideal) × States Ideal) : Prop :=
  (∀ i d, ys.view.read (Elt Ideal) p.1 (ix2 i d)
      = if i.val % 4096 < 128 * k then Spec.readout A DT U B C (bOf i) (tOf i) d else DT (bOf i) (tOf i) d)
    ∧ ∀ b s d, p.2.get b (ix2 s d) = Spec.state A DT U B b d s (128 * k) (by omega)

theorem bOf_at (b : Fin 4) (k j : Nat) (h : 4096 * b.val + 128 * k + j < 16384) (hj : j < 128) (hk : k < 32) :
    bOf ⟨4096 * b.val + 128 * k + j, h⟩ = b := Fin.ext (by show (4096 * b.val + 128 * k + j) / 4096 = b.val; omega)
theorem tOf_at (b : Fin 4) (k j : Nat) (h : 4096 * b.val + 128 * k + j < 16384) (hj : j < 128) (hk : k < 32) :
    tOf ⟨4096 * b.val + 128 * k + j, h⟩ = ⟨128 * k + j, by omega⟩ :=
  Fin.ext (by show (4096 * b.val + 128 * k + j) % 4096 = 128 * k + j; omega)

include hA hu hB in
/-- The state after some steps of trip `k`. -/
theorem tripAfter_at (k : Fin trips.trips) (p : ys.view.ty.Contents (Elt Ideal) × States Ideal)
    (hp : Holds ys A DT U B C k.val (by have := trips_lt k; omega) p) (b : Fin 4) (n : Nat) (hn : n ≤ 128) (s : Fin 16) (d : Fin 128) :
    tripAfter ys us bct at96 p.1 fu fb k b (p.2.get b) n hn (ix2 s d)
      = Spec.state A DT U B b d s (128 * k.val + n) (by have := trips_lt k; omega) := by
  have hk := trips_lt k
  have hdt : ∀ (j : Fin 128) d, dtOf ys p.1 k b (ix2 j d) = DT b ⟨128 * k.val + j.val, by omega⟩ d := fun j d => by
    rw [dtOf_at, hp.1, bOf_at b k.val j.val _ j.isLt hk, tOf_at b k.val j.val _ j.isLt hk, if_neg]
    show ¬ (4096 * b.val + 128 * k.val + j.val) % 4096 < 128 * k.val
    omega
  unfold tripAfter
  refine after_at A DT U B at96 hA _ _ _ _ k.val hk b hdt (fun j d => ?_) (fun s j => ?_) (hp.2 b) s d n hn
  · show dtOf ys p.1 k b (ix2 j d) * dtOf us fu k b (ix2 j d) = _
    rw [hdt, dtOf_at, hu, bOf_at b k.val j.val _ j.isLt hk, tOf_at b k.val j.val _ j.isLt hk]
  · rw [bcOf_at, hB, bOf_at b k.val j.val _ j.isLt hk, tOf_at b k.val j.val _ j.isLt hk]

include hA hu hB hC in
/-- A trip keeps it. -/
theorem holds_succ (k : Fin trips.trips) (p : ys.view.ty.Contents (Elt Ideal) × States Ideal)
    (hp : Holds ys A DT U B C k.val (by have := trips_lt k; omega) p) :
    Holds ys A DT U B C (k.val + 1) (by have := trips_lt k; omega)
      (rowsBuf ys k (tripRows ys us bct at96 p.1 fu fb k p.2) 128 (le_refl _) p.1, tripStates ys us bct at96 p.1 fu fb k p.2) := by
  have hk := trips_lt k
  have hst := tripAfter_at ys us bct A DT U B C at96 hA fu hu fb hB k p hp
  refine ⟨fun i d => ?_, fun b s d => ?_⟩
  · have hi := i.isLt
    dsimp only
    rw [rowsBuf_at]
    by_cases h : 128 * k.val ≤ i.val % 4096 ∧ i.val % 4096 < 128 * k.val + 128
    · rw [dif_pos (by omega), if_pos (by omega)]
      unfold tripRows
      rw [stepY_at]
      unfold Spec.readout
      refine Finset.sum_congr rfl fun s _ => ?_
      rw [hst, bcOf_at, hC]
      have e1 : bOf ⟨4096 * (bOf i).val + 128 * k.val + (i.val % 4096 - 128 * k.val), by dsimp only [bOf]; omega⟩ = bOf i :=
        bOf_at (bOf i) k.val _ _ (by omega) hk
      have e2 : tOf ⟨4096 * (bOf i).val + 128 * k.val + (i.val % 4096 - 128 * k.val), by dsimp only [bOf]; omega⟩ = tOf i :=
        (tOf_at (bOf i) k.val _ _ (by omega) hk).trans
          (Fin.ext (by show 128 * k.val + (i.val % 4096 - 128 * k.val) = i.val % 4096; omega))
      have e3 : 128 * k.val + (i.val % 4096 - 128 * k.val + 1) = (tOf i).val + 1 := by
        show _ = i.val % 4096 + 1
        omega
      simp only [e1, e2, e3]
    · rw [dif_neg (by omega), hp.1]
      by_cases h2 : i.val % 4096 < 128 * k.val
      · rw [if_pos h2, if_pos (by omega)]
      · rw [if_neg h2, if_neg (by omega)]
  · have hb : (tripStates ys us bct at96 p.1 fu fb k p.2).get b
        = tripAfter ys us bct at96 p.1 fu fb k b (p.2.get b) 128 (by omega) := by
      fin_cases b <;> rfl
    dsimp only
    rw [hb, hst]
    rfl

include hA hu hB hC hf hs0 in
/-- It holds before every trip. -/
theorem scan_holds : ∀ (k : Nat) (hk : k ≤ 32), Holds ys A DT U B C k hk (scan ys us bct at96 fu fb f hs k)
  | 0, _ => ⟨fun i d => by rw [if_neg (by omega)]; exact hf i d, hs0⟩
  | k + 1, hk => by
    have hlt : k < trips.trips := hk
    have h := holds_succ ys us bct A DT U B C at96 hA fu hu fb hB hC ⟨k, hlt⟩ _ (scan_holds k (by omega))
    rw [← scan_succ ys us bct at96 fu fb f hs ⟨k, hlt⟩] at h
    exact h

include hA hu hB hC hf hs0 in
/-- After the loop the buffer of steps holds the outputs. -/
theorem scanBuf_at (i : Fin 16384) (d : Fin 128) :
    ys.view.read (Elt Ideal) (scanBuf ys us bct at96 fu fb f hs 32) (ix2 i d) = Spec.readout A DT U B C (bOf i) (tOf i) d := by
  rw [scanBuf_eq, (scan_holds ys us bct A DT U B C at96 hA fu hu fb hB hC f hf hs hs0 32 (by omega)).1,
    if_pos (by omega)]

end Loop

end Buffer

end Mamba

end
-- ==== Proof.KI.Read3.lean ====
/- What the kernel leaves in its two result blocks, index by index. -/
module

public import proofs.«01_k».proof.Proof.KI.Read2
public import proofs.«01_k».proof.Proof.KI.Launch
public import proofs.«01_k».proof.Proof.KI.Opened
public import proofs.«01_k».proof.Proof.Mamba.Read

@[expose] public section

set_option maxRecDepth 16384

noncomputable section

namespace Cert.Proof.KI

open Cert.KernelIdeal Cert.KernelIdeal.Gen
open Idealize.ShloMosaic Idealize.ShloMosaic.TcCoe
open Mamba.Spec (Seq)

/-! ## A block put together from its batch elements -/

section Pieces

variable {n : Nat} {b b' : Nat} {L : List (View.Piece (Elt Ideal) (⟨3, ![4, 128, n]⟩ : Shape) .f32)}

/-- Under a batch element's piece the contents are the piece's payload; -/
theorem canon_hit (hb : b < 4) (inb : ∀ a, (![b, 0, 0] : Fin 3 → Nat) a + (![1, 128, n] : Fin 3 → Nat) a ≤ (![4, 128, n] : Fin 3 → Nat) a)
    (w : (⟨3, ![1, 128, n]⟩ : Shape).Idx → EReal) (o : Fin 128) (p : Fin n) :
    View.canon (Val := Elt Ideal) (e := .f32) (⟨Rect.unit (s := ⟨3, ![4, 128, n]⟩) ![b, 0, 0] ![1, 128, n] inb, w⟩ :: L) (ix3 ⟨b, hb⟩ o p) = w (ix3 0 o p) := by
  have e : (ix3 ⟨b, hb⟩ o p : (⟨3, ![4, 128, n]⟩ : Shape).Idx)
      = (Rect.unit (s := ⟨3, ![4, 128, n]⟩) ![b, 0, 0] ![1, 128, n] inb).emb (ix3 0 o p) := by
    funext a
    apply Fin.ext
    match a with
    | ⟨0, _⟩ => show b = b + 1 * 0; omega
    | ⟨1, _⟩ => show o.val = 0 + 1 * o.val; omega
    | ⟨2, _⟩ => show p.val = 0 + 1 * p.val; omega
  rw [e]
  exact View.canon_cons_emb (Val := Elt Ideal) (e := .f32) (Rect.unit (s := ⟨3, ![4, 128, n]⟩) ![b, 0, 0] ![1, 128, n] inb) w L _

/-- under another's they are what the earlier pieces left. -/
theorem canon_miss (hb : b < 4) (h : b ≠ b')
    (inb : ∀ a, (![b', 0, 0] : Fin 3 → Nat) a + (![1, 128, n] : Fin 3 → Nat) a ≤ (![4, 128, n] : Fin 3 → Nat) a)
    (w : (⟨3, ![1, 128, n]⟩ : Shape).Idx → EReal) (o : Fin 128) (p : Fin n) :
    View.canon (Val := Elt Ideal) (e := .f32) (⟨Rect.unit (s := ⟨3, ![4, 128, n]⟩) ![b', 0, 0] ![1, 128, n] inb, w⟩ :: L) (ix3 ⟨b, hb⟩ o p)
      = View.canon L (ix3 ⟨b, hb⟩ o p) := by
  refine View.canon_cons_of_not_mem _ L fun hm => h ?_
  obtain ⟨x, hx⟩ := LoadRect.exists_idx_of_mem _ hm
  have h0 : b' + 1 * (x 0).val = b := congrArg (fun i : (⟨3, ![4, 128, n]⟩ : Shape).Idx => (i 0).val) hx
  have h1 : (x 0).val < 1 := (x 0).isLt
  omega

end Pieces

section

variable (arg18 : Memref sig .tc .vmem S16384x128 .f32) (arg19 : Memref sig .tc .vmem S16384x128 .f32)
  (arg20 : Memref sig .tc .vmem S32x16384 .f32)
  (x0 : Vec Ideal S4x4096x64 .f32) (x1 : Vec Ideal S256x64 .f32) (x2 : Vec Ideal S3x128 .f32) (x3 : Vec Ideal S1x128 .f32)
  (x4 : Vec Ideal S128x128 .f32) (x5 : Vec Ideal S1x128 .f32) (x6 : Vec Ideal S32x128 .f32) (x7 : Vec Ideal S16x128 .f32)
  (x8 : Vec Ideal S1x128 .f32) (x9 : Vec Ideal S64x128 .f32) (x10 : Vec Ideal S9x128x64 .f32) (x11 x12 : Vec Ideal S1x128 .f32)
  (x13 : Vec Ideal S128x256 .f32) (x14 : Vec Ideal S1x128 .f32)

/-- The recurrence's outputs. -/
theorem y_at (i : Fin 16384) (d : Fin 128) :
    yOf arg18 arg19 arg20 x0 x1 x2 x3 x4 x5 x6 x7 (ix2 i d)
      = Mamba.Spec.readout (fun d s => x7 (ix2 s d)) (dtS (uS x0 x1 x2 x3) x4 x5) (uS x0 x1 x2 x3)
          (Mamba.Spec.bOf (uS x0 x1 x2 x3) (fun s k => x6 (ix2 s k))) (Mamba.Spec.cOf (uS x0 x1 x2 x3) (fun s k => x6 (ix2 s k)))
          (bOf i) (tOf i) d := by
  unfold yOf yK
  refine Mamba.scanBuf_at arg18 arg19 arg20 _ _ _ _ _ _ (fun s d => ?_) _ (fun i d => ?_) _ (fun s i => ?_) (fun s i => ?_)
    _ (fun i d => ?_) _ (fun b s d => ?_) i d
  · pointwise [k0_pay1438]
  · rw [View.read_writes_full]
    pointwise [k0_pay1436, u_at]
  · rw [View.read_writes_full]
    exact bc_at _ x6 _ (u_at x0 x1 x2 x3) i (Mamba.Spec.lo s)
  · rw [View.read_writes_full]
    exact bc_at _ x6 _ (u_at x0 x1 x2 x3) i (Mamba.Spec.hi s)
  · rw [View.read_writes_full]
    exact dt_at x0 x1 x2 x3 x4 x5 i d
  · fin_cases b
    · show k0_pay1439 (ix2 s d) = 0
      pointwise [k0_pay1439]
    · show k0_pay1440 (ix2 s d) = 0
      pointwise [k0_pay1440]
    · show k0_pay1441 (ix2 s d) = 0
      pointwise [k0_pay1441]
    · show k0_pay1442 (ix2 s d) = 0
      pointwise [k0_pay1442]

/-- The residual stream. -/
abbrev streamS : Seq 64 :=
  Mamba.Spec.stream (pix x0) (dtS (uS x0 x1 x2 x3) x4 x5) (uS x0 x1 x2 x3) (zS x0 x1) (fun s k => x6 (ix2 s k))
    (fun d s => x7 (ix2 s d)) (fun d => x8 (ix2 0 d)) (fun x d => x9 (ix2 x d))

theorem stream_at (i : Fin 16384) (x : Fin 64) :
    resOf arg18 arg19 arg20 x0 x1 x2 x3 x4 x5 x6 x7 x8 x9 (ix2 i x)
      = streamS x0 x1 x2 x3 x4 x5 x6 x7 x8 x9 (bOf i) (tOf i) x :=
  res_at x0 x1 _ x8 _ x9 _ _ (y_at arg18 arg19 arg20 x0 x1 x2 x3 x4 x5 x6 x7) (u_at x0 x1 x2 x3) i x

/-- The normalised image. -/
abbrev skipS : Seq 128 := fun b p o =>
  max (Mamba.Spec.conv9 (streamS x0 x1 x2 x3 x4 x5 x6 x7 x8 x9) (fun o x dy dx => x10 (ix3 ⟨3 * dy.val + dx.val, by omega⟩ o x)) b p o
    * x11 (ix2 0 o) + x12 (ix2 0 o)) 0

theorem skipS_at (b : Fin 4) (p : Fin 4096) (o : Fin 128) :
    skipOf (resOf arg18 arg19 arg20 x0 x1 x2 x3 x4 x5 x6 x7 x8 x9) x10 x11 x12 b (ix2 p o)
      = skipS x0 x1 x2 x3 x4 x5 x6 x7 x8 x9 x10 x11 x12 b p o :=
  skipOf_at _ _ (stream_at arg18 arg19 arg20 x0 x1 x2 x3 x4 x5 x6 x7 x8 x9) x10 x11 x12 b p o

end

variable (m : (ℓ : Loc nD τ sig) → Buf (Elt Ideal) ℓ) (c : Dev nD) (t : Fin cfg0.N)

/-- The normalised image the launch computes. -/
abbrev skipL : Seq 128 :=
  skipS (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) (iblk m c 12 t)

/-- The first result's block. -/
theorem outsAt_skip (b : Fin 4) (o : Fin 128) (p : Fin 4096) :
    (outsAt m c t).1 (ix3 b o p) = skipL m c t b p o := by
  unfold outsAt
  rw [skip_eq]
  match b with
  | ⟨0, _⟩ =>
    refine (canon_miss (b := 0) (b' := 3) (by omega) (by omega) _ _ o p).trans ?_
    refine (canon_miss (b := 0) (b' := 2) (by omega) (by omega) _ _ o p).trans ?_
    refine (canon_miss (b := 0) (b' := 1) (by omega) (by omega) _ _ o p).trans ?_
    refine (canon_hit (b := 0) (by omega) _ _ o p).trans ?_
    rw [skipBlk_at]
    exact skipS_at _ _ _ _ _ _ _ _ _ _ _ _ _ _ _ _ 0 p o
  | ⟨1, _⟩ =>
    refine (canon_miss (b := 1) (b' := 3) (by omega) (by omega) _ _ o p).trans ?_
    refine (canon_miss (b := 1) (b' := 2) (by omega) (by omega) _ _ o p).trans ?_
    refine (canon_hit (b := 1) (by omega) _ _ o p).trans ?_
    rw [skipBlk_at]
    exact skipS_at _ _ _ _ _ _ _ _ _ _ _ _ _ _ _ _ 1 p o
  | ⟨2, _⟩ =>
    refine (canon_miss (b := 2) (b' := 3) (by omega) (by omega) _ _ o p).trans ?_
    refine (canon_hit (b := 2) (by omega) _ _ o p).trans ?_
    rw [skipBlk_at]
    exact skipS_at _ _ _ _ _ _ _ _ _ _ _ _ _ _ _ _ 2 p o
  | ⟨3, _⟩ =>
    refine (canon_hit (b := 3) (by omega) _ _ o p).trans ?_
    rw [skipBlk_at]
    exact skipS_at _ _ _ _ _ _ _ _ _ _ _ _ _ _ _ _ 3 p o

/-- The second result's block. -/
theorem outsAt_down (b : Fin 4) (o : Fin 128) (q : Fin 1024) :
    (outsAt m c t).2 (ix3 b o q)
      = Mamba.Spec.mix (skipL m c t) (fun o k => iblk m c 13 t (ix2 o k)) (fun o => iblk m c 14 t (ix2 0 o)) b q o := by
  unfold outsAt
  rw [down_eq]
  match b with
  | ⟨0, _⟩ =>
    refine (canon_miss (b := 0) (b' := 3) (by omega) (by omega) _ _ o q).trans ?_
    refine (canon_miss (b := 0) (b' := 2) (by omega) (by omega) _ _ o q).trans ?_
    refine (canon_miss (b := 0) (b' := 1) (by omega) (by omega) _ _ o q).trans ?_
    refine (canon_hit (b := 0) (by omega) _ _ o q).trans ?_
    exact downBlk_at _ _ 0 (skipS_at _ _ _ _ _ _ _ _ _ _ _ _ _ _ _ _ 0) _ _ o q
  | ⟨1, _⟩ =>
    refine (canon_miss (b := 1) (b' := 3) (by omega) (by omega) _ _ o q).trans ?_
    refine (canon_miss (b := 1) (b' := 2) (by omega) (by omega) _ _ o q).trans ?_
    refine (canon_hit (b := 1) (by omega) _ _ o q).trans ?_
    exact downBlk_at _ _ 1 (skipS_at _ _ _ _ _ _ _ _ _ _ _ _ _ _ _ _ 1) _ _ o q
  | ⟨2, _⟩ =>
    refine (canon_miss (b := 2) (b' := 3) (by omega) (by omega) _ _ o q).trans ?_
    refine (canon_hit (b := 2) (by omega) _ _ o q).trans ?_
    exact downBlk_at _ _ 2 (skipS_at _ _ _ _ _ _ _ _ _ _ _ _ _ _ _ _ 2) _ _ o q
  | ⟨3, _⟩ =>
    refine (canon_hit (b := 3) (by omega) _ _ o q).trans ?_
    exact downBlk_at _ _ 3 (skipS_at _ _ _ _ _ _ _ _ _ _ _ _ _ _ _ _ 3) _ _ o q

end Cert.Proof.KI

end
-- ==== Proof.Mamba.Net.lean ====
/- The whole computation in its arguments: as the kernel orders it and as the reference orders it. -/
module

public import proofs.«01_k».proof.Proof.Mamba.Spec

@[expose] public section

noncomputable section

namespace Mamba

open Idealize.ShloMosaic
open Spec (Seq)

/-- The arguments, as functions of their indices. -/
structure Args where
  x : Fin 4 → Fin 64 → Fin 64 → Fin 64 → EReal
  inW : Fin 256 → Fin 64 → EReal
  convW : Fin 128 → Fin 3 → EReal
  convB : Fin 128 → EReal
  xW : Fin 36 → Fin 128 → EReal
  dtW : Fin 128 → Fin 4 → EReal
  dtB : Fin 128 → EReal
  aLog : Fin 128 → Fin 16 → EReal
  D : Fin 128 → EReal
  outW : Fin 64 → Fin 128 → EReal
  pwW : Fin 128 → Fin 64 → Fin 3 → Fin 3 → EReal
  pwB : Fin 128 → EReal
  gamma : Fin 128 → EReal
  beta : Fin 128 → EReal
  mean : Fin 128 → EReal
  var : Fin 128 → EReal
  gateW : Fin 128 → Fin 256 → EReal
  gateB : Fin 128 → EReal

namespace Args

variable (a : Args)

/-- The pixels in raster order. -/
def X : Seq 64 := fun b p x => a.x b x ⟨p.val / 64, by omega⟩ ⟨p.val % 64, by omega⟩

/-- The recurrence's input and the gate's. -/
def U : Seq 128 := Spec.uOf a.X a.inW (fun n d => a.convW d n) a.convB
def Z : Seq 128 := Spec.zOf a.X a.inW

/-- The recurrence's steps: the kernel multiplies the two projections together first, the reference projects twice. -/
def dtK : Seq 128 := fun b t d =>
  Spec.softplus ((∑ k, a.U b t k * ∑ r : Fin 4, a.xW ⟨r.val, by omega⟩ k * a.dtW d r) + a.dtB d)
def dtR : Seq 128 := fun b t d =>
  Spec.softplus ((∑ r : Fin 4, (∑ k, a.U b t k * a.xW ⟨r.val, by omega⟩ k) * a.dtW d r) + a.dtB d)

/-- The residual stream of the given steps. -/
def R (dt : Seq 128) : Seq 64 :=
  Spec.stream a.X dt a.U a.Z (fun s k => a.xW ⟨4 + s.val, by omega⟩ k) (fun d s => -Ideal.exp (a.aLog d s)) a.D a.outW

/-- The reciprocal of the deviation. -/
def r (o : Fin 128) : EReal := Ideal.rsqrt (a.var o + Ideal.ofBits .f32 0x3727C5AC#32)

/-- The normalised image: the kernel folds the normalisation into a scale and a bias, the reference normalises. -/
def skipK : Seq 128 := fun b p o =>
  max (Spec.conv9 (a.R a.dtK) a.pwW b p o * (a.gamma o * a.r o) + ((a.pwB o - a.mean o) * (a.gamma o * a.r o) + a.beta o)) 0
def skipR : Seq 128 := fun b p o =>
  max ((Spec.conv9 (a.R a.dtR) a.pwW b p o + a.pwB o - a.mean o) * a.r o * a.gamma o + a.beta o) 0

/-- The gated pooling of a normalised image. -/
def down (s : Seq 128) : Fin 4 → Fin 1024 → Fin 128 → EReal := Spec.mix s a.gateW a.gateB

end Args

end Mamba

end
-- ==== Proof.KI.Host.lean ====
/- The kernel's input blocks, index by index, in the program's arguments. -/
module

public import proofs.«01_k».proof.Proof.KI.Read3
public import proofs.«01_k».proof.Proof.Mamba.Net
public import Idealize.ShloMosaic.Lib.StableHlo.ReadAt

@[expose] public section

set_option maxRecDepth 16384

noncomputable section

namespace Cert.Proof.KI

open Cert.KernelIdeal Cert.KernelIdeal.Gen
open Idealize.ShloMosaic Idealize.ShloMosaic.TcCoe Idealize.ShloMosaic.Tactic
open Mamba.Spec (Seq)

variable (m : (ℓ : Loc nD τ sig) → Buf (Elt Ideal) ℓ) (c : Dev nD) (t : Fin cfg0.N)

/-- The arguments on a device. -/
def args : Mamba.Args where
  x := fun b x h w => m (c, main_arg0) (ix4 b x h w)
  inW := fun e x => m (c, main_arg1) (ix2 e x)
  convW := fun d n => m (c, main_arg2) (ix3 d 0 n)
  convB := fun d => m (c, main_arg3) (ix1 d)
  xW := fun s k => m (c, main_arg4) (ix2 s k)
  dtW := fun d r => m (c, main_arg5) (ix2 d r)
  dtB := fun d => m (c, main_arg6) (ix1 d)
  aLog := fun d s => m (c, main_arg7) (ix2 d s)
  D := fun d => m (c, main_arg8) (ix1 d)
  outW := fun x d => m (c, main_arg9) (ix2 x d)
  pwW := fun o x dy dx => m (c, main_arg10) (ix4 o x dy dx)
  pwB := fun o => m (c, main_arg11) (ix1 o)
  gamma := fun o => m (c, main_arg12) (ix1 o)
  beta := fun o => m (c, main_arg13) (ix1 o)
  mean := fun o => m (c, main_arg14) (ix1 o)
  var := fun o => m (c, main_arg15) (ix1 o)
  gateW := fun o k => m (c, main_arg16) (ix4 o k 0 0)
  gateB := fun o => m (c, main_arg17) (ix1 o)

/-! ## Each block is its whole array -/

theorem blk0 (j : S4x4096x64.Idx) : (iblk m c 0 t : Vec Ideal S4x4096x64 .f32) j = V m c main_v1 j := by
  have e : ((win0_0.blk t).view.emb j) = j := by
    blk_ext [(by decide +kernel : ∀ t : Fin grid0.N, win0_0.index t = ![0, 0, 0])]
  blk_simp [iblk, e]

theorem blk1 (j : S256x64.Idx) : (iblk m c 1 t : Vec Ideal S256x64 .f32) j = V m c main_arg1 j := by
  have e : ((win0_1.blk t).view.emb j) = j := by
    blk_ext [(by decide +kernel : ∀ t : Fin grid0.N, win0_1.index t = ![0, 0])]
  blk_simp [iblk, e]

theorem blk2 (j : S3x128.Idx) : (iblk m c 2 t : Vec Ideal S3x128 .f32) j = V m c main_v3 j := by
  have e : ((win0_2.blk t).view.emb j) = j := by
    blk_ext [(by decide +kernel : ∀ t : Fin grid0.N, win0_2.index t = ![0, 0])]
  blk_simp [iblk, e]

theorem blk3 (j : S1x128.Idx) : (iblk m c 3 t : Vec Ideal S1x128 .f32) j = V m c main_v22 j := by
  have e : ((win0_3.blk t).view.emb j) = j := by
    blk_ext [(by decide +kernel : ∀ t : Fin grid0.N, win0_3.index t = ![0, 0])]
  blk_simp [iblk, e]

theorem blk4 (j : S128x128.Idx) : (iblk m c 4 t : Vec Ideal S128x128 .f32) j = V m c main_v10 j := by
  have e : ((win0_4.blk t).view.emb j) = j := by
    blk_ext [(by decide +kernel : ∀ t : Fin grid0.N, win0_4.index t = ![0, 0])]
  blk_simp [iblk, e]

theorem blk5 (j : S1x128.Idx) : (iblk m c 5 t : Vec Ideal S1x128 .f32) j = V m c main_v23 j := by
  have e : ((win0_5.blk t).view.emb j) = j := by
    blk_ext [(by decide +kernel : ∀ t : Fin grid0.N, win0_5.index t = ![0, 0])]
  blk_simp [iblk, e]

theorem blk6 (j : S32x128.Idx) : (iblk m c 6 t : Vec Ideal S32x128 .f32) j = V m c main_v11 j := by
  have e : ((win0_6.blk t).view.emb j) = j := by
    blk_ext [(by decide +kernel : ∀ t : Fin grid0.N, win0_6.index t = ![0, 0])]
  blk_simp [iblk, e]

theorem blk7 (j : S16x128.Idx) : (iblk m c 7 t : Vec Ideal S16x128 .f32) j = V m c main_v6 j := by
  have e : ((win0_7.blk t).view.emb j) = j := by
    blk_ext [(by decide +kernel : ∀ t : Fin grid0.N, win0_7.index t = ![0, 0])]
  blk_simp [iblk, e]

theorem blk8 (j : S1x128.Idx) : (iblk m c 8 t : Vec Ideal S1x128 .f32) j = V m c main_v24 j := by
  have e : ((win0_8.blk t).view.emb j) = j := by
    blk_ext [(by decide +kernel : ∀ t : Fin grid0.N, win0_8.index t = ![0, 0])]
  blk_simp [iblk, e]

theorem blk9 (j : S64x128.Idx) : (iblk m c 9 t : Vec Ideal S64x128 .f32) j = V m c main_arg9 j := by
  have e : ((win0_9.blk t).view.emb j) = j := by
    blk_ext [(by decide +kernel : ∀ t : Fin grid0.N, win0_9.index t = ![0, 0])]
  blk_simp [iblk, e]

theorem blk10 (j : S9x128x64.Idx) : (iblk m c 10 t : Vec Ideal S9x128x64 .f32) j = V m c main_v13 j := by
  have e : ((win0_10.blk t).view.emb j) = j := by
    blk_ext [(by decide +kernel : ∀ t : Fin grid0.N, win0_10.index t = ![0, 0, 0])]
  blk_simp [iblk, e]

theorem blk11 (j : S1x128.Idx) : (iblk m c 11 t : Vec Ideal S1x128 .f32) j = V m c main_v25 j := by
  have e : ((win0_11.blk t).view.emb j) = j := by
    blk_ext [(by decide +kernel : ∀ t : Fin grid0.N, win0_11.index t = ![0, 0])]
  blk_simp [iblk, e]

theorem blk12 (j : S1x128.Idx) : (iblk m c 12 t : Vec Ideal S1x128 .f32) j = V m c main_v26 j := by
  have e : ((win0_12.blk t).view.emb j) = j := by
    blk_ext [(by decide +kernel : ∀ t : Fin grid0.N, win0_12.index t = ![0, 0])]
  blk_simp [iblk, e]

theorem blk13 (j : S128x256.Idx) : (iblk m c 13 t : Vec Ideal S128x256 .f32) j = V m c main_v21 j := by
  have e : ((win0_13.blk t).view.emb j) = j := by
    blk_ext [(by decide +kernel : ∀ t : Fin grid0.N, win0_13.index t = ![0, 0])]
  blk_simp [iblk, e]

theorem blk14 (j : S1x128.Idx) : (iblk m c 14 t : Vec Ideal S1x128 .f32) j = V m c main_v27 j := by
  have e : ((win0_14.blk t).view.emb j) = j := by
    blk_ext [(by decide +kernel : ∀ t : Fin grid0.N, win0_14.index t = ![0, 0])]
  blk_simp [iblk, e]

/-! ## Each block in the arguments -/

theorem in0 (b : Fin 4) (p : Fin 4096) (x : Fin 64) : (iblk m c 0 t : Vec Ideal S4x4096x64 .f32) (ix3 b p x) = (args m c).X b p x := by
  rw [blk0]; unfold V; after_reads_at; rfl
theorem in1 (e : Fin 256) (x : Fin 64) : (iblk m c 1 t : Vec Ideal S256x64 .f32) (ix2 e x) = (args m c).inW e x := by
  rw [blk1]; unfold V; after_reads_at; rfl
theorem in2 (n : Fin 3) (d : Fin 128) : (iblk m c 2 t : Vec Ideal S3x128 .f32) (ix2 n d) = (args m c).convW d n := by
  rw [blk2]; unfold V; after_reads_at; rfl
theorem in3 (d : Fin 128) : (iblk m c 3 t : Vec Ideal S1x128 .f32) (ix2 0 d) = (args m c).convB d := by
  rw [blk3]; unfold V; after_reads_at; rfl
theorem in4 (k d : Fin 128) : (iblk m c 4 t : Vec Ideal S128x128 .f32) (ix2 k d)
    = ∑ r : Fin 4, (args m c).xW ⟨r.val, by omega⟩ k * (args m c).dtW d r := by
  rw [blk4]; unfold V; after_reads_at; rfl
theorem in5 (d : Fin 128) : (iblk m c 5 t : Vec Ideal S1x128 .f32) (ix2 0 d) = (args m c).dtB d := by
  rw [blk5]; unfold V; after_reads_at; rfl
theorem in6 (s : Fin 32) (k : Fin 128) : (iblk m c 6 t : Vec Ideal S32x128 .f32) (ix2 s k) = (args m c).xW ⟨4 + s.val, by omega⟩ k := by
  rw [blk6]; unfold V; after_reads_at; rfl
theorem in7 (s : Fin 16) (d : Fin 128) : (iblk m c 7 t : Vec Ideal S16x128 .f32) (ix2 s d) = -Ideal.exp ((args m c).aLog d s) := by
  rw [blk7]; unfold V; after_reads_at; rfl
theorem in8 (d : Fin 128) : (iblk m c 8 t : Vec Ideal S1x128 .f32) (ix2 0 d) = (args m c).D d := by
  rw [blk8]; unfold V; after_reads_at; rfl
theorem in9 (x : Fin 64) (d : Fin 128) : (iblk m c 9 t : Vec Ideal S64x128 .f32) (ix2 x d) = (args m c).outW x d := by
  rw [blk9]; unfold V; after_reads_at; rfl
theorem in10 (o : Fin 128) (x : Fin 64) (dy dx : Fin 3) :
    (iblk m c 10 t : Vec Ideal S9x128x64 .f32) (ix3 ⟨3 * dy.val + dx.val, by omega⟩ o x) = (args m c).pwW o x dy dx := by
  rw [blk10]; unfold V; after_reads_at; fin_cases dy <;> fin_cases dx <;> rfl
theorem in11 (o : Fin 128) : (iblk m c 11 t : Vec Ideal S1x128 .f32) (ix2 0 o) = (args m c).gamma o * (args m c).r o := by
  rw [blk11]; unfold V; after_reads_at; rfl
theorem in12 (o : Fin 128) : (iblk m c 12 t : Vec Ideal S1x128 .f32) (ix2 0 o)
    = ((args m c).pwB o - (args m c).mean o) * ((args m c).gamma o * (args m c).r o) + (args m c).beta o := by
  rw [blk12]; unfold V; after_reads_at; rfl
theorem in13 (o : Fin 128) (k : Fin 256) : (iblk m c 13 t : Vec Ideal S128x256 .f32) (ix2 o k) = (args m c).gateW o k := by
  rw [blk13]; unfold V; after_reads_at; rfl
theorem in14 (o : Fin 128) : (iblk m c 14 t : Vec Ideal S1x128 .f32) (ix2 0 o) = (args m c).gateB o := by
  rw [blk14]; unfold V; after_reads_at; rfl

end Cert.Proof.KI

end
-- ==== Proof.KI.Result.lean ====
/- What the kernel's run leaves: its two results, in the program's arguments. -/
module

public import proofs.«01_k».proof.Proof.KI.Host

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL.Sem
open Mamba.Spec (Seq)

variable (m : (ℓ : Loc nD τ sig) → Buf (Elt Ideal) ℓ) (ρ : Dev nD → PrngReg)

/-- The launch's normalised image is the computation's. -/
theorem skipL_eq (c : Dev nD) (t : Fin cfg0.N) : skipL m c t = (args m c).skipK := by
  have hx : pix (iblk m c 0 t) = (args m c).X := by
    funext b p x; exact in0 m c t b p x
  have hw : inW (iblk m c 1 t) = (args m c).inW := by
    funext e x; exact in1 m c t e x
  have hu : uS (iblk m c 0 t) (iblk m c 1 t) (iblk m c 2 t) (iblk m c 3 t) = (args m c).U := by
    unfold uS u0S Mamba.Args.U Mamba.Spec.uOf Mamba.Spec.u0
    rw [hx, hw]
    simp only [in2 m c t, in3 m c t]
  have hz : zS (iblk m c 0 t) (iblk m c 1 t) = (args m c).Z := by
    unfold zS Mamba.Args.Z Mamba.Spec.zOf
    rw [hx, hw]
  have hd : dtS (uS (iblk m c 0 t) (iblk m c 1 t) (iblk m c 2 t) (iblk m c 3 t)) (iblk m c 4 t) (iblk m c 5 t) = (args m c).dtK := by
    rw [hu]
    unfold dtS Mamba.Args.dtK
    simp only [in4 m c t, in5 m c t]
  have hr : streamS (iblk m c 0 t) (iblk m c 1 t) (iblk m c 2 t) (iblk m c 3 t) (iblk m c 4 t) (iblk m c 5 t) (iblk m c 6 t) (iblk m c 7 t)
      (iblk m c 8 t) (iblk m c 9 t) = (args m c).R (args m c).dtK := by
    unfold streamS Mamba.Args.R
    rw [hd, hu, hx, hz]
    simp only [in6 m c t, in7 m c t, in8 m c t, in9 m c t]
  funext b p o
  unfold skipL skipS Mamba.Args.skipK
  rw [hr]
  simp only [in10 m c t, in11 m c t, in12 m c t]

/-- The two results' contents. -/
def skipOut (c : Dev nD) : Buf (Elt Ideal) ((c.tc : Thread nD τ).loc main_v28_0) :=
  fun (i : S4x128x4096.Idx) => (args m c).skipK (i 0) (i 2) (i 1)
def downOut (c : Dev nD) : Buf (Elt Ideal) ((c.tc : Thread nD τ).loc main_v28_1) :=
  fun (i : S4x128x1024.Idx) => (args m c).down (args m c).skipK (i 0) (i 2) (i 1)

theorem skip_arr (c : Dev nD) : (dats m 0 c).arrAt 15 cfg0.N = skipOut m c := by
  refine (dats m 0 c).arrAt_eq_of_covers 15 _ (by decide +kernel) fun t hf y => ?_
  have e : ((win0_15.blk t).view.emb y) = y := by
    blk_ext [(by decide +kernel : ∀ t : Fin grid0.N, win0_15.index t = ![0, 0, 0])]
  blk_simp [e]
  rw [after0_15]
  obtain ⟨b, o, p, rfl⟩ : ∃ (b : Fin 4) (o : Fin 128) (p : Fin 4096), y = ix3 b o p := ⟨y 0, y 1, y 2, by funext a; fin_cases a <;> rfl⟩
  refine (outsAt_skip m c t b o p).trans ?_
  rw [skipL_eq]
  rfl

theorem down_arr (c : Dev nD) : (dats m 0 c).arrAt 16 cfg0.N = downOut m c := by
  refine (dats m 0 c).arrAt_eq_of_covers 16 _ (by decide +kernel) fun t hf y => ?_
  have e : ((win0_16.blk t).view.emb y) = y := by
    blk_ext [(by decide +kernel : ∀ t : Fin grid0.N, win0_16.index t = ![0, 0, 0])]
  blk_simp [e]
  rw [after0_16]
  obtain ⟨b, o, p, rfl⟩ : ∃ (b : Fin 4) (o : Fin 128) (p : Fin 1024), y = ix3 b o p := ⟨y 0, y 1, y 2, by funext a; fin_cases a <;> rfl⟩
  refine (outsAt_down m c t b o p).trans ?_
  rw [skipL_eq]
  simp only [in13 m c t, in14 m c t]
  rfl

/-- After the run the two results hold them. -/
theorem run_results (r : (_ × _)) (h : Pipeline.FramePost cfgs (dats m) 0 (V m) r) (c : Dev nD) :
    r.2.mem ((c.tc : Thread nD τ).loc main_v28_1) = downOut m c
      ∧ r.2.mem ((c.tc : Thread nD τ).loc main_v28_0) = skipOut m c :=
  ⟨(h.out_eq c 16).trans (down_arr m c), (h.out_eq c 15).trans (skip_arr m c)⟩

end Cert.Proof.KI

end
-- ==== Proof.Mamba.Equal.lean ====
/- The kernel's order and the reference's order give the same values when the weights they reassociate are finite. -/
module

public import proofs.«01_k».proof.Proof.Mamba.Net

@[expose] public section

noncomputable section

namespace Mamba

open Idealize.ShloMosaic
open Spec (Seq)

/-- A real number among the extended reals. -/
def Fin' (x : EReal) : Prop := ∃ r : ℝ, x = (r : EReal)

theorem Fin'.of_abs {x : EReal} (h : max x (-x) < ⊤) : Fin' x := by
  induction x using EReal.rec with
  | bot => simp at h
  | coe r => exact ⟨r, rfl⟩
  | top => simp at h

theorem Fin'.zero : Fin' 0 := ⟨0, by simp⟩
theorem Fin'.add {x y : EReal} (hx : Fin' x) (hy : Fin' y) : Fin' (x + y) := by
  obtain ⟨r, rfl⟩ := hx; obtain ⟨s, rfl⟩ := hy; exact ⟨r + s, by push_cast; rfl⟩
theorem Fin'.mul {x y : EReal} (hx : Fin' x) (hy : Fin' y) : Fin' (x * y) := by
  obtain ⟨r, rfl⟩ := hx; obtain ⟨s, rfl⟩ := hy; exact ⟨r * s, by push_cast; rfl⟩

/-- A sum of real numbers is their real sum. -/
theorem coe_sum {ι : Type} (s : Finset ι) (g : ι → ℝ) : ∑ i ∈ s, ((g i : ℝ) : EReal) = ((∑ i ∈ s, g i : ℝ) : EReal) := by
  classical
  induction s using Finset.induction_on with
  | empty => simp
  | insert a s ha ih => rw [Finset.sum_insert ha, Finset.sum_insert ha, ih, EReal.coe_add]

theorem Fin'.sum {ι : Type} [Fintype ι] {f : ι → EReal} (h : ∀ i, Fin' (f i)) : Fin' (∑ i, f i) := by
  choose g hg using h
  exact ⟨∑ i, g i, by rw [← coe_sum]; exact Finset.sum_congr rfl fun i _ => hg i⟩

theorem Fin'.logistic {x : EReal} (hx : Fin' x) : Fin' (Ideal.logistic x) := by
  obtain ⟨r, rfl⟩ := hx
  refine ⟨1 * (1 + Real.exp (-r))⁻¹, ?_⟩
  have hp : (0 : ℝ) < 1 + Real.exp (-r) := by positivity
  have e : (1 : EReal) + Ideal.exp (-(r : EReal)) = ((1 + Real.exp (-r) : ℝ) : EReal) := by
    rw [← EReal.coe_neg, EReal.coe_add]; rfl
  unfold Ideal.logistic
  rw [e]
  unfold Ideal.div
  rw [if_neg (by rw [← EReal.coe_zero]; exact fun h => hp.ne' (EReal.coe_injective h)), EReal.coe_mul, EReal.coe_inv, EReal.coe_one]

theorem Fin'.silu {x : EReal} (hx : Fin' x) : Fin' (Spec.silu x) := hx.mul hx.logistic

/-- Summing over the ranks first or last is the same for real numbers. -/
theorem sum_swap (U : Fin 128 → EReal) (x : Fin 4 → Fin 128 → EReal) (w : Fin 4 → EReal) (hU : ∀ k, Fin' (U k))
    (hx : ∀ r k, Fin' (x r k)) (hw : ∀ r, Fin' (w r)) :
    (∑ k, U k * ∑ r : Fin 4, x r k * w r) = ∑ r : Fin 4, (∑ k, U k * x r k) * w r := by
  choose u hu using hU
  choose y hy using hx
  choose v hv using hw
  simp only [hu, hy, hv]
  simp only [← EReal.coe_mul, coe_sum]
  refine congrArg (fun r : ℝ => (r : EReal)) ?_
  simp only [Finset.mul_sum, Finset.sum_mul]
  rw [Finset.sum_comm]
  exact Finset.sum_congr rfl fun _ _ => Finset.sum_congr rfl fun _ _ => by ring

/-- A real number distributes over a sum with a real number. -/
theorem add_mul_real (x : EReal) (q c : ℝ) : x * (c : EReal) + (q : EReal) * (c : EReal) = (x + (q : EReal)) * (c : EReal) := by
  induction x using EReal.rec with
  | coe r => rw [← EReal.coe_mul, ← EReal.coe_mul, ← EReal.coe_add, ← EReal.coe_add, ← EReal.coe_mul, add_mul]
  | bot =>
    rw [EReal.bot_add, ← EReal.coe_mul]
    rcases lt_trichotomy c 0 with h | h | h
    · rw [EReal.bot_mul_coe_of_neg h, EReal.top_add_coe]
    · subst h; simp
    · rw [EReal.bot_mul_coe_of_pos h, EReal.bot_add]
  | top =>
    rw [EReal.top_add_coe, ← EReal.coe_mul]
    rcases lt_trichotomy c 0 with h | h | h
    · rw [EReal.top_mul_coe_of_neg h, EReal.bot_add]
    · subst h; simp
    · rw [EReal.top_mul_coe_of_pos h, EReal.top_add_coe]

/-- Folding the normalisation: a scale and a bias against the normalisation in order. -/
theorem fold_norm (x p μ r g β : EReal) (hp : Fin' p) (hμ : Fin' μ) (hr : Fin' r) (hg : Fin' g) :
    x * (g * r) + ((p - μ) * (g * r) + β) = (x + p - μ) * r * g + β := by
  obtain ⟨p, rfl⟩ := hp; obtain ⟨μ, rfl⟩ := hμ; obtain ⟨r, rfl⟩ := hr; obtain ⟨g, rfl⟩ := hg
  have e : x + (p : EReal) - (μ : EReal) = x + ((p - μ : ℝ) : EReal) := by
    rw [EReal.coe_sub, sub_eq_add_neg, sub_eq_add_neg, add_assoc]
  rw [e, mul_assoc, mul_comm ((r : ℝ) : EReal) ((g : ℝ) : EReal), ← add_assoc, ← EReal.coe_sub, ← EReal.coe_mul, add_mul_real]

/-- The reciprocal of the deviation of a nonnegative variance is a real number. -/
theorem Fin'.rsqrt {v : EReal} (h : 0 ≤ v) : Fin' (Ideal.rsqrt (v + Ideal.ofBits .f32 0x3727C5AC#32)) := by
  obtain ⟨ε, hε, he⟩ : ∃ ε : ℝ, 0 < ε ∧ Ideal.ofBits .f32 0x3727C5AC#32 = (ε : EReal) := by
    refine ⟨_, ?_, by simp [Ideal.ofBits, Ideal.ieee, -EReal.coe_mul]; rfl⟩
    norm_num
  rw [he]
  induction v using EReal.rec with
  | bot => simp at h
  | coe r =>
    have hr : (0 : ℝ) ≤ r := by exact_mod_cast h
    rw [← EReal.coe_add]
    refine ⟨(Real.sqrt (r + ε))⁻¹, ?_⟩
    show (if r + ε < 0 then (⊥ : EReal) else if r + ε = 0 then ⊤ else (((Real.sqrt (r + ε))⁻¹ : ℝ) : EReal)) = _
    rw [if_neg (by linarith), if_neg (by linarith)]
  | top => rw [EReal.top_add_coe]; exact ⟨0, rfl⟩

/-- The arguments whose terms are reassociated are finite, and the variance is not negative. -/
structure Args.Tame (a : Args) : Prop where
  x : ∀ b c h w, Fin' (a.x b c h w)
  inW : ∀ e c, Fin' (a.inW e c)
  convW : ∀ d n, Fin' (a.convW d n)
  convB : ∀ d, Fin' (a.convB d)
  xW : ∀ s k, Fin' (a.xW s k)
  dtW : ∀ d r, Fin' (a.dtW d r)
  pwB : ∀ o, Fin' (a.pwB o)
  gamma : ∀ o, Fin' (a.gamma o)
  mean : ∀ o, Fin' (a.mean o)
  var : ∀ o, 0 ≤ a.var o

namespace Args

variable {a : Args} (h : a.Tame)

include h

theorem Tame.u0 (b : Fin 4) (t : Fin 4096) (d : Fin 128) : Fin' (Spec.u0 a.X a.inW b t d) :=
  Fin'.sum fun x => (h.x b x _ _).mul (h.inW _ x)

theorem Tame.earlier (n : Nat) (b : Fin 4) (t : Fin 4096) (d : Fin 128) :
    Fin' (Spec.earlier n (Spec.u0 a.X a.inW) b t d) := by
  unfold Spec.earlier
  split
  · exact h.u0 _ _ _
  · exact Fin'.zero

theorem Tame.U (b : Fin 4) (t : Fin 4096) (d : Fin 128) : Fin' (a.U b t d) :=
  Fin'.silu (((((h.earlier 2 b t d).mul (h.convW d 0)).add ((h.earlier 1 b t d).mul (h.convW d 1))).add
    ((h.u0 b t d).mul (h.convW d 2))).add (h.convB d))

/-- The steps agree. -/
theorem Tame.dt : a.dtK = a.dtR := by
  funext b t d
  exact congrArg (fun s => Spec.softplus (s + a.dtB d)) (sum_swap (a.U b t) (fun r k => a.xW ⟨r.val, by omega⟩ k) (a.dtW d)
    (h.U b t) (fun r k => h.xW _ k) (h.dtW d))

/-- The normalised images agree. -/
theorem Tame.skip : a.skipK = a.skipR := by
  funext b p o
  unfold skipK skipR
  rw [h.dt, fold_norm _ _ _ _ _ _ (h.pwB o) (h.mean o) (show Fin' (a.r o) from Fin'.rsqrt (h.var o)) (h.gamma o)]

end Args

end Mamba

end
-- ==== Proof.KI.Tame.lean ====
/- The precondition, read as bounds on the arguments. -/
module

public import proofs.«01_k».proof.Defs
public import proofs.«01_k».proof.Proof.KI.Result
public import proofs.«01_k».proof.Proof.Mamba.Equal
public import Idealize.ShloMosaic.Lib.ReduceAll

@[expose] public section

set_option maxRecDepth 16384

noncomputable section

namespace Cert.Proof.KI

open Idealize.ShloMosaic Idealize.ShloMosaic.TcCoe Idealize.SL.Sem
open Mamba

/-- The precondition's shape relations. -/
theorem preFacts : Cert.Pre_tame.Facts := by
  constructor <;> decide

instance : Subsingleton Cert.Pre_tame.S_.Idx := ⟨fun i j => funext fun a => a.elim0⟩

/-- An array whose every element is below infinity in absolute value holds real numbers. -/
theorem real_of_all {s : Shape} {axes : List (Fin s.rank)} (x : FVec Ideal s .f32)
    (hb : Cert.Pre_tame.S_.BroadcastsInDim s (![] : Fin 0 → Fin s.rank)) (hr : s.ReducesTo axes Cert.Pre_tame.S_)
    (hu : 0 < Cert.Pre_tame.S_.numel) (j : Cert.Pre_tame.S_.Idx)
    (e : Host.reduce IntOp.andi (cmpf .olt (Host.absf x) (broadcastInDim s ![] hb (constant Cert.Pre_tame.S_ .f32 0x7F800000#32)))
      (constantI Cert.Pre_tame.S_ 1 1#1) hr hu j = 1#1) (i : s.Idx) : Fin' (x i) := by
  have h : Ideal.cmp .olt (max (x i : EReal) (-(x i : EReal))) (Ideal.ofBits .f32 0x7F800000#32) = 1#1 :=
    Host.reduce_andi_all _ _ hr hu j e i
  rw [show Ideal.ofBits .f32 0x7F800000#32 = ⊤ by simp [Ideal.ofBits, Ideal.ieee]] at h
  refine Fin'.of_abs ?_
  by_contra hn
  simp [Ideal.cmp, hn] at h

/-- An array whose every element is at least zero. -/
theorem nonneg_of_all {s : Shape} {axes : List (Fin s.rank)} (x : FVec Ideal s .f32)
    (hb : Cert.Pre_tame.S_.BroadcastsInDim s (![] : Fin 0 → Fin s.rank)) (hr : s.ReducesTo axes Cert.Pre_tame.S_)
    (hu : 0 < Cert.Pre_tame.S_.numel) (j : Cert.Pre_tame.S_.Idx)
    (e : Host.reduce IntOp.andi (cmpf .oge x (broadcastInDim s ![] hb (constant Cert.Pre_tame.S_ .f32 0x00000000#32)))
      (constantI Cert.Pre_tame.S_ 1 1#1) hr hu j = 1#1) (i : s.Idx) : (0 : EReal) ≤ x i := by
  have h : Ideal.cmp .oge (x i : EReal) (Ideal.ofBits .f32 0x00000000#32) = 1#1 :=
    Host.reduce_andi_all _ _ hr hu j e i
  rw [Ideal.ofBits_zero_f32] at h
  by_contra hn
  simp [Ideal.cmp, hn] at h

/-- The precondition bounds the arguments. -/
theorem tame_args (hp : Cert.Pre_tame.Facts) (m : (ℓ : Loc Cert.KernelIdeal.nD Cert.KernelIdeal.τ Cert.KernelIdeal.sig) → Buf (Elt Ideal) ℓ)
    (h : Cert.Pre_KernelIdeal_tame (hPre_tame := hp) m) (c : Dev Cert.KernelIdeal.nD) : (args m c).Tame := by
  have e := congrFun (h c) (fun a => a.elim0)
  unfold Cert.Pre_tame.fn Cert.Pre_tame.fn_part1 Cert.Pre_tame.fn_part2 at e
  obtain ⟨e, a14⟩ := IntOp.andi_eq_one.1 e
  obtain ⟨e, a12⟩ := IntOp.andi_eq_one.1 e
  obtain ⟨e, a11⟩ := IntOp.andi_eq_one.1 e
  obtain ⟨e, a5⟩ := IntOp.andi_eq_one.1 e
  obtain ⟨e, a4⟩ := IntOp.andi_eq_one.1 e
  obtain ⟨e, a3⟩ := IntOp.andi_eq_one.1 e
  obtain ⟨e, a2⟩ := IntOp.andi_eq_one.1 e
  obtain ⟨e, a1⟩ := IntOp.andi_eq_one.1 e
  obtain ⟨a15, a0⟩ := IntOp.andi_eq_one.1 e
  exact
    { x := fun b x y z => real_of_all _ _ _ _ _ a0 (ix4 b x y z)
      inW := fun e x => real_of_all _ _ _ _ _ a1 (ix2 e x)
      convW := fun d n => real_of_all _ _ _ _ _ a2 (ix3 d 0 n)
      convB := fun d => real_of_all _ _ _ _ _ a3 (ix1 d)
      xW := fun s k => real_of_all _ _ _ _ _ a4 (ix2 s k)
      dtW := fun d r => real_of_all _ _ _ _ _ a5 (ix2 d r)
      pwB := fun o => real_of_all _ _ _ _ _ a11 (ix1 o)
      gamma := fun o => real_of_all _ _ _ _ _ a12 (ix1 o)
      mean := fun o => real_of_all _ _ _ _ _ a14 (ix1 o)
      var := fun o => nonneg_of_all _ _ _ _ _ a15 (ix1 o) }

end Cert.Proof.KI

end
-- ==== Proof.RI.Pre.lean ====
/- The reference before its loop, index by index: the projection's halves, the recurrence's input, its matrices and its
   steps. -/
module

public import proofs.«01_k».proof.Proof.RI.Frame
public import proofs.«01_k».proof.Proof.Mamba.Net
public import Idealize.ShloMosaic.Lib.StableHlo.ReadAt
public import Idealize.ShloMosaic.Lib.Pointwise

@[expose] public section

set_option maxRecDepth 16384

noncomputable section

namespace Cert.Proof.RI

open Idealize.ShloMosaic Idealize.ShloMosaic.TcCoe Idealize.ShloMosaic.StableHlo Idealize.SL.Sem
open Cert.ReferenceIdeal Cert.ReferenceIdeal.Gen Cert.ReferenceIdeal.Value
open Mamba

variable (m : (ℓ : Loc nD τ sig) → Buf (Elt Ideal) ℓ) (c : Dev nD)

/-- The arguments on a device. -/
def args : Mamba.Args where
  x := fun b x h w => m (c, main_arg0) (ix4 b x h w)
  inW := fun e x => m (c, main_arg1) (ix2 e x)
  convW := fun d n => m (c, main_arg2) (ix3 d 0 n)
  convB := fun d => m (c, main_arg3) (ix1 d)
  xW := fun s k => m (c, main_arg4) (ix2 s k)
  dtW := fun d r => m (c, main_arg5) (ix2 d r)
  dtB := fun d => m (c, main_arg6) (ix1 d)
  aLog := fun d s => m (c, main_arg7) (ix2 d s)
  D := fun d => m (c, main_arg8) (ix1 d)
  outW := fun x d => m (c, main_arg9) (ix2 x d)
  pwW := fun o x dy dx => m (c, main_arg10) (ix4 o x dy dx)
  pwB := fun o => m (c, main_arg11) (ix1 o)
  gamma := fun o => m (c, main_arg12) (ix1 o)
  beta := fun o => m (c, main_arg13) (ix1 o)
  mean := fun o => m (c, main_arg14) (ix1 o)
  var := fun o => m (c, main_arg15) (ix1 o)
  gateW := fun o k => m (c, main_arg16) (ix4 o k 0 0)
  gateB := fun o => m (c, main_arg17) (ix1 o)

/-! ## The buffers' contents after each stretch -/

def W0 : Valuation τ sig (Elt Ideal) := launchContents m c
def W1 : Valuation τ sig (Elt Ideal) := after hostOps0 (W0 m c)
def W2 : Valuation τ sig (Elt Ideal) := after hostOps0_1 (W1 m c)
def W3 : Valuation τ sig (Elt Ideal) := after hostOps0_2 (W2 m c)
def W4 : Valuation τ sig (Elt Ideal) := after hostOps0_3 (W3 m c)
def W5 : Valuation τ sig (Elt Ideal) := after hostOps0_4 (W4 m c)

theorem entry_eq : entryContents preI m c = W5 m c := by
  simp only [entryContents, afterL_cons, afterL_nil, W5, W4, W3, W2, W1, W0]

/-- A stretch leaves a buffer it does not write. -/
theorem W1_keeps (b : Ref sig .tc) (h : b ∉ hostOps0_W) : W1 m c b = W0 m c b := after_of_writes_sub _ _ hostOps0_writes h
theorem W2_keeps (b : Ref sig .tc) (h : b ∉ hostOps0_1_W) : W2 m c b = W1 m c b := after_of_writes_sub _ _ hostOps0_1_writes h
theorem W3_keeps (b : Ref sig .tc) (h : b ∉ hostOps0_2_W) : W3 m c b = W2 m c b := after_of_writes_sub _ _ hostOps0_2_writes h
theorem W4_keeps (b : Ref sig .tc) (h : b ∉ hostOps0_3_W) : W4 m c b = W3 m c b := after_of_writes_sub _ _ hostOps0_3_writes h
theorem W5_keeps (b : Ref sig .tc) (h : b ∉ hostOps0_4_W) : W5 m c b = W4 m c b := after_of_writes_sub _ _ hostOps0_4_writes h

/-- What nothing before the loop writes. -/
abbrev preW : List (Ref sig .tc) := hostOps0_W ++ hostOps0_1_W ++ hostOps0_2_W ++ hostOps0_3_W ++ hostOps0_4_W

theorem arg2 (b : Ref sig .tc) (h : b ∉ preW) : W2 m c b = m (c, b) := by
  simp only [preW, List.mem_append, not_or] at h
  rw [W2_keeps m c b h.1.1.1.2, W1_keeps m c b h.1.1.1.1]; rfl
theorem arg4 (b : Ref sig .tc) (h : b ∉ preW) : W4 m c b = m (c, b) := by
  have h' := h
  simp only [preW, List.mem_append, not_or] at h
  rw [W4_keeps m c b h.1.2, W3_keeps m c b h.1.1.2, arg2 m c b h']
theorem arg5 (b : Ref sig .tc) (h : b ∉ preW) : W5 m c b = m (c, b) := by
  have h' := h
  simp only [preW, List.mem_append, not_or] at h
  rw [W5_keeps m c b h.2, arg4 m c b h']

/-! ## The projection and its padding -/

theorem v4_at (b : Fin 4) (t : Fin 4096) (d : Fin 128) :
    (W1 m c main_v4 : FVec Ideal S4x4096x128 .f32) (ix3 b t d) = Spec.u0 (args m c).X (args m c).inW b t d := by
  unfold W1
  after_reads_at
  rfl

theorem v5_at (b : Fin 4) (t : Fin 4096) (d : Fin 128) :
    (W1 m c main_v5 : FVec Ideal S4x4096x128 .f32) (ix3 b t d) = (args m c).Z b t d := by
  unfold W1
  after_reads_at
  rfl

theorem c_at : (W1 m c main_c : IVec S_ 32) (Shape.Idx.first h_S_) = 0#32 := by
  unfold W1
  after_reads_at

/-- The projection with two zeros in front. -/
theorem v6_at (b : Fin 4) (t : Fin 4098) (d : Fin 128) :
    (W2 m c main_v6 : FVec Ideal S4x4098x128 .f32) (ix3 b t d)
      = if h : 2 ≤ t.val then Spec.u0 (args m c).X (args m c).inW b ⟨t.val - 2, by omega⟩ d else 0 := by
  unfold W2
  after_reads_at
  by_cases h : 2 ≤ t.val
  · rw [dif_pos ⟨h, by omega⟩, dif_pos h]
    exact v4_at m c b _ d
  · rw [dif_neg (fun e => h e.1), dif_neg h]
    refine (congrArg (FloatOps.sitofp (F := Ideal) FTy.f32) (c_at m c)).trans ?_
    simp [FloatOps.sitofp]

theorem v6_at0 (b : Fin 4) (t : Fin 4096) (d : Fin 128) (h) :
    (W2 m c main_v6 : FVec Ideal S4x4098x128 .f32) (ix3 b ⟨t.val, h⟩ d)
      = Spec.earlier 2 (Spec.u0 (args m c).X (args m c).inW) b t d := by
  rw [v6_at]; unfold Spec.earlier; rfl

theorem v6_at1 (b : Fin 4) (t : Fin 4096) (d : Fin 128) (h) :
    (W2 m c main_v6 : FVec Ideal S4x4098x128 .f32) (ix3 b ⟨1 + t.val, h⟩ d)
      = Spec.earlier 1 (Spec.u0 (args m c).X (args m c).inW) b t d := by
  rw [v6_at]; unfold Spec.earlier
  by_cases h1 : 1 ≤ t.val
  · rw [dif_pos (by dsimp only; omega), if_pos h1]
    exact congrArg (fun i => Spec.u0 (args m c).X (args m c).inW b i d) (Fin.ext (by dsimp only; omega))
  · rw [dif_neg (by dsimp only; omega), if_neg h1]

theorem v6_at2 (b : Fin 4) (t : Fin 4096) (d : Fin 128) (h) :
    (W2 m c main_v6 : FVec Ideal S4x4098x128 .f32) (ix3 b ⟨2 + t.val, h⟩ d)
      = Spec.u0 (args m c).X (args m c).inW b t d := by
  rw [v6_at, dif_pos (by dsimp only; omega)]
  exact congrArg (fun i => Spec.u0 (args m c).X (args m c).inW b i d) (Fin.ext (by dsimp only; omega))

/-! ## The recurrence's input, its matrices and its steps -/

theorem v36_at (b : Fin 4) (t : Fin 4096) (d : Fin 128) :
    (W3 m c main_v36 : FVec Ideal S4x4096x128 .f32) (ix3 b t d) = (args m c).U b t d := by
  unfold W3
  after_reads_at
  rw [v6_at0, v6_at1, v6_at2, arg2 m c main_arg2 (by decide +kernel), arg2 m c main_arg3 (by decide +kernel)]
  rfl

theorem v40_at (b : Fin 4) (t : Fin 4096) (s : Fin 16) :
    (W3 m c main_v40 : FVec Ideal S4x4096x16 .f32) (ix3 b t s)
      = Spec.bOf (args m c).U (fun s k => (args m c).xW ⟨4 + s.val, by omega⟩ k) b t s := by
  unfold W3
  after_reads_at
  unfold Spec.bOf Spec.proj
  refine Finset.sum_congr rfl fun k _ => ?_
  rw [v6_at0, v6_at1, v6_at2, arg2 m c main_arg2 (by decide +kernel), arg2 m c main_arg3 (by decide +kernel),
    arg2 m c main_arg4 (by decide +kernel)]
  rfl

theorem v41_at (b : Fin 4) (t : Fin 4096) (s : Fin 16) :
    (W3 m c main_v41 : FVec Ideal S4x4096x16 .f32) (ix3 b t s)
      = Spec.cOf (args m c).U (fun s k => (args m c).xW ⟨4 + s.val, by omega⟩ k) b t s := by
  unfold W3
  after_reads_at
  unfold Spec.cOf Spec.proj
  refine Finset.sum_congr rfl fun k _ => ?_
  rw [v6_at0, v6_at1, v6_at2, arg2 m c main_arg2 (by decide +kernel), arg2 m c main_arg3 (by decide +kernel),
    arg2 m c main_arg4 (by decide +kernel)]
  exact congrArg (fun i => (args m c).U b t k * (args m c).xW i k) (Fin.ext (by simp only [Spec.hi]; omega))

theorem v46_at (b : Fin 4) (t : Fin 4096) (d : Fin 128) :
    (W3 m c main_v46 : FVec Ideal S4x4096x128 .f32) (ix3 b t d)
      = (∑ r : Fin 4, (∑ k, (args m c).U b t k * (args m c).xW ⟨r.val, by omega⟩ k) * (args m c).dtW d r)
          + (args m c).dtB d := by
  unfold W3
  after_reads_at
  refine congr (congrArg HAdd.hAdd (Finset.sum_congr rfl fun r _ => ?_)) ?_
  · refine congr (congrArg HMul.hMul (Finset.sum_congr rfl fun k _ => ?_)) ?_
    · rw [v6_at0, v6_at1, v6_at2, arg2 m c main_arg2 (by decide +kernel), arg2 m c main_arg3 (by decide +kernel),
        arg2 m c main_arg4 (by decide +kernel)]
      rfl
    · rw [arg2 m c main_arg5 (by decide +kernel)]; rfl
  · rw [arg2 m c main_arg6 (by decide +kernel)]; rfl

theorem v47_at (b : Fin 4) (t : Fin 4096) (d : Fin 128) :
    (W4 m c main_v47 : FVec Ideal S4x4096x128 .f32) (ix3 b t d) = (args m c).dtR b t d := by
  unfold W4
  after_reads_at
  rw [if_neg (by simp)]
  refine Eq.trans ?_ (congrArg Spec.softplus (v46_at m c b t d))
  rfl

/-! ## The loop's buffers at its entry -/

theorem e0_at (b : Fin 4) (t : Fin 4096) (d : Fin 128) :
    (W5 m c main_v56_0 : FVec Ideal S4096x4x128 .f32) (ix3 t b d) = (args m c).dtR b t d := by
  unfold W5
  after_reads_at
  dsimp only [id]
  pointwise
  exact v47_at m c b t d

theorem e1_at (b : Fin 4) (t : Fin 4096) (s : Fin 16) :
    (W5 m c main_v56_1 : FVec Ideal S4096x4x16 .f32) (ix3 t b s)
      = Spec.bOf (args m c).U (fun s k => (args m c).xW ⟨4 + s.val, by omega⟩ k) b t s := by
  unfold W5
  after_reads_at
  dsimp only [id]
  pointwise
  rw [W4_keeps m c main_v40 (by decide +kernel)]
  exact v40_at m c b t s

theorem e2_at (b : Fin 4) (t : Fin 4096) (s : Fin 16) :
    (W5 m c main_v56_2 : FVec Ideal S4096x4x16 .f32) (ix3 t b s)
      = Spec.cOf (args m c).U (fun s k => (args m c).xW ⟨4 + s.val, by omega⟩ k) b t s := by
  unfold W5
  after_reads_at
  dsimp only [id]
  pointwise
  rw [W4_keeps m c main_v41 (by decide +kernel)]
  exact v41_at m c b t s

theorem e3_at (b : Fin 4) (t : Fin 4096) (d : Fin 128) :
    (W5 m c main_v56_3 : FVec Ideal S4096x4x128 .f32) (ix3 t b d) = (args m c).U b t d := by
  unfold W5
  after_reads_at
  dsimp only [id]
  pointwise
  rw [W4_keeps m c main_v36 (by decide +kernel)]
  exact v36_at m c b t d

theorem e4_at (d : Fin 128) (s : Fin 16) :
    (W5 m c main_v56_4 : FVec Ideal S128x16 .f32) (ix2 d s) = -Ideal.exp ((args m c).aLog d s) := by
  unfold W5
  after_reads_at
  dsimp only [id]
  pointwise
  rw [arg4 m c main_arg7 (by decide +kernel)]
  rfl

theorem e6_at (b : Fin 4) (d : Fin 128) (s : Fin 16) :
    (W5 m c main_v56_6 : FVec Ideal S4x128x16 .f32) (ix3 b d s) = (0 : EReal) := by
  unfold W5
  after_reads_at
  dsimp only [id]
  pointwise

end Cert.Proof.RI

end
-- ==== Proof.RI.Loop.lean ====
/- The reference's loop: before trip `k` its state is the recurrence's after `k` steps, and its rows before `k` are the
   recurrence's output. -/
module

public import proofs.«01_k».proof.Proof.RI.Pre
public import Idealize.ShloMosaic.Lib.DynamicIndex
public import Idealize.ShloMosaic.Lib.WordCmp

@[expose] public section

set_option maxRecDepth 16384

noncomputable section

namespace Cert.Proof.RI

open Idealize.ShloMosaic Idealize.ShloMosaic.TcCoe Idealize.ShloMosaic.StableHlo Idealize.SL.Sem
open Cert.ReferenceIdeal Cert.ReferenceIdeal.Gen Cert.ReferenceIdeal.Value
open Mamba

section
variable (V : Valuation τ sig (Elt Ideal)) (k : Fin 4096)

/-- The start of trip `k`'s row. -/
theorem row_start (hk : V main_v56_5 = fun _ => Scf.iv 0#32 1#32 k.val) :
    (fun j => (((![V (Proc.devRef .tc main_v56_5), constantI S_ 32 0#32, constantI S_ 32 0#32] : Fin 3 → (⟨S_, .i32⟩ : BufTy).Contents (Elt Ideal))) j (Shape.Idx.first h_S_)).toInt)
      = ![(k.val : Int), 0, 0] := by
  rw [hk]
  funext j
  fin_cases j
  · refine (Scf.toInt_iv (lb := 0#32) (ub := 4096#32) (st := 1#32) (by decide) (show k.val ≤ Scf.trips 0#32 4096#32 1#32 from ?_)).trans ?_
    · exact le_of_lt k.isLt
    · simp
  · rfl
  · rfl

theorem fits128 : S4096x4x128.Slices ![k.val, 0, 0] S1x4x128 :=
  ⟨rfl, fun a => by fin_cases a <;> simp [Shape.size] <;> omega⟩
theorem fits16 : S4096x4x16.Slices ![k.val, 0, 0] S1x4x16 :=
  ⟨rfl, fun a => by fin_cases a <;> simp [Shape.size] <;> omega⟩

theorem row128 (x : FVec Ideal S4096x4x128 .f32) (st : Fin 3 → Int) (h) (e : st = ![(k.val : Int), 0, 0]) :
    Host.dynamicSlice S1x4x128 x st h = extractStridedSlice S1x4x128 ![k.val, 0, 0] x (fits128 k) := by
  subst e
  exact WordCmp.dynamicSlice_eq_extract _ _ _ _ _ _ fun a => by fin_cases a <;> rfl
theorem row16 (x : FVec Ideal S4096x4x16 .f32) (st : Fin 3 → Int) (h) (e : st = ![(k.val : Int), 0, 0]) :
    Host.dynamicSlice S1x4x16 x st h = extractStridedSlice S1x4x16 ![k.val, 0, 0] x (fits16 k) := by
  subst e
  exact WordCmp.dynamicSlice_eq_extract _ _ _ _ _ _ fun a => by fin_cases a <;> rfl
theorem upd128 (x : FVec Ideal S4096x4x128 .f32) (u : FVec Ideal S1x4x128 .f32) (st : Fin 3 → Int) (h)
    (e : st = ![(k.val : Int), 0, 0]) :
    Host.dynamicUpdateSlice x u st h = updateSlice x u ![k.val, 0, 0] (fits128 k) := by
  subst e
  exact WordCmp.dynamicUpdateSlice_eq_update _ _ _ _ _ _ fun a => by fin_cases a <;> rfl

/-- One trip's state. -/
theorem h_trip (hk : V main_v56_5 = fun _ => Scf.iv 0#32 1#32 k.val) (b : Fin 4) (d : Fin 128) (s : Fin 16)
    {dt A h B u : EReal} (e0 : (V main_v56_0 : FVec Ideal S4096x4x128 .f32) (ix3 k b d) = dt)
    (e4 : (V main_v56_4 : FVec Ideal S128x16 .f32) (ix2 d s) = A)
    (e6 : (V main_v56_6 : FVec Ideal S4x128x16 .f32) (ix3 b d s) = h)
    (e1 : (V main_v56_1 : FVec Ideal S4096x4x16 .f32) (ix3 k b s) = B)
    (e3 : (V main_v56_3 : FVec Ideal S4096x4x128 .f32) (ix3 k b d) = u) :
    (afterL bodyI V main_v56_6 : FVec Ideal S4x128x16 .f32) (ix3 b d s) = Ideal.exp (dt * A) * h + dt * u * B := by
  subst e0 e4 e6 e1 e3
  rw [trip_main_v56_6]
  unfold res_main_while0b_v194 res_main_while0b_v175
  dsimp only [id]
  rw [row128 k, row128 k, row16 k]
  · pointwise
    rw [mul_right_comm]
  all_goals exact row_start V k hk

/-- One trip's rows: its own row is the state's product with the output matrix, the others stay. -/
theorem y_trip (hk : V main_v56_5 = fun _ => Scf.iv 0#32 1#32 k.val) (b : Fin 4) (t : Fin 4096) (d : Fin 128) :
    (afterL bodyI V main_v56_7 : FVec Ideal S4096x4x128 .f32) (ix3 t b d)
      = if k.val ≤ t.val ∧ t.val < k.val + 1 then
          ∑ s : Fin 16, (show EReal from (afterL bodyI V main_v56_6 : FVec Ideal S4x128x16 .f32) (ix3 b d s))
            * (show EReal from (V main_v56_2 : FVec Ideal S4096x4x16 .f32) (ix3 k b s))
        else (show EReal from (V main_v56_7 : FVec Ideal S4096x4x128 .f32) (ix3 t b d)) := by
  rw [trip_main_v56_7]
  dsimp only [id]
  rw [upd128 k, row16 k]
  · pointwise
    simp only [trip_main_v56_6]
    rfl
  all_goals exact row_start V k hk
end

variable (m : (ℓ : Loc nD τ sig) → Buf (Elt Ideal) ℓ) (c : Dev nD)

/-- The last 32 rows of the projection, and the recurrence's decay. -/
abbrev wbc : Fin 32 → Fin 128 → EReal := fun s k => (args m c).xW ⟨4 + s.val, by omega⟩ k
abbrev decay : Fin 128 → Fin 16 → EReal := fun d s => -Ideal.exp ((args m c).aLog d s)

/-- The contents a trip's body starts from. -/
def Vk (k : ℕ) : Valuation τ sig (Elt Ideal) := after condOps (atK m k c)

theorem Vk_eq (k : ℕ) (b : Ref sig .tc) (h : b ∉ condOps_W) : Vk m c k b = atK m k c b :=
  after_of_writes_sub _ _ condOps_writes h

theorem Vk_ctr (k : ℕ) : Vk m c k main_v56_5 = fun _ => Scf.iv 0#32 1#32 k :=
  (Vk_eq m c k main_v56_5 (by decide)).trans (atK_ctr m c k)

theorem Vk_entry (k : ℕ) (b : Ref sig .tc) (hc : b ∉ condOps_W) (h0 : b ∉ while0Ops0_W) (h1 : b ∉ while0Ops0_1_W)
    (h2 : b ∉ while0Ops0_2_W) (h3 : b ∉ while0Ops0_3_W) (h4 : b ∉ while0Ops0_4_W) (h5 : b ∉ while0Ops0_5_W)
    (h6 : b ∉ while0Ops0_6_W) : Vk m c k b = W5 m c b :=
  (Vk_eq m c k b hc).trans ((atK_keeps m c b hc h0 h1 h2 h3 h4 h5 h6 k).trans (congrFun (entry_eq m c) _))

theorem Vk_0 (k : ℕ) : Vk m c k main_v56_0 = W5 m c main_v56_0 :=
  Vk_entry m c k main_v56_0 (by decide) (by decide) (by decide) (by decide) (by decide) (by decide) (by decide) (by decide)
theorem Vk_1 (k : ℕ) : Vk m c k main_v56_1 = W5 m c main_v56_1 :=
  Vk_entry m c k main_v56_1 (by decide) (by decide) (by decide) (by decide) (by decide) (by decide) (by decide) (by decide)
theorem Vk_2 (k : ℕ) : Vk m c k main_v56_2 = W5 m c main_v56_2 :=
  Vk_entry m c k main_v56_2 (by decide) (by decide) (by decide) (by decide) (by decide) (by decide) (by decide) (by decide)
theorem Vk_3 (k : ℕ) : Vk m c k main_v56_3 = W5 m c main_v56_3 :=
  Vk_entry m c k main_v56_3 (by decide) (by decide) (by decide) (by decide) (by decide) (by decide) (by decide) (by decide)
theorem Vk_4 (k : ℕ) : Vk m c k main_v56_4 = W5 m c main_v56_4 :=
  Vk_entry m c k main_v56_4 (by decide) (by decide) (by decide) (by decide) (by decide) (by decide) (by decide) (by decide)

/-- The state before trip `k`. -/
theorem atK_h (b : Fin 4) (d : Fin 128) (s : Fin 16) : ∀ (k : ℕ) (hk : k ≤ 4096),
    (atK m k c main_v56_6 : FVec Ideal S4x128x16 .f32) (ix3 b d s)
      = Spec.state (decay m c) (args m c).dtR (args m c).U (Spec.bOf (args m c).U (wbc m c)) b d s k hk
  | 0, _ => (congrFun (congrFun (entry_eq m c) _) _).trans (e6_at m c b d s)
  | k + 1, hk => by
    show (afterL bodyI (Vk m c k) main_v56_6 : FVec Ideal S4x128x16 .f32) (ix3 b d s) = _
    refine (h_trip (Vk m c k) ⟨k, hk⟩ (Vk_ctr m c k) b d s (dt := (args m c).dtR b ⟨k, hk⟩ d) (A := decay m c d s)
      (h := Spec.state (decay m c) (args m c).dtR (args m c).U (Spec.bOf (args m c).U (wbc m c)) b d s k (by omega))
      (B := Spec.bOf (args m c).U (wbc m c) b ⟨k, hk⟩ s) (u := (args m c).U b ⟨k, hk⟩ d) ?_ ?_ ?_ ?_ ?_).trans ?_
    · rw [Vk_0]; exact e0_at m c b ⟨k, hk⟩ d
    · rw [Vk_4]; exact e4_at m c d s
    · rw [Vk_eq m c k main_v56_6 (by decide)]; exact atK_h b d s k (by omega)
    · rw [Vk_1]; exact e1_at m c b ⟨k, hk⟩ s
    · rw [Vk_3]; exact e3_at m c b ⟨k, hk⟩ d
    · rfl

/-- The rows before trip `k`. -/
theorem atK_y (b : Fin 4) (d : Fin 128) (t : Fin 4096) : ∀ (k : ℕ) (_ : k ≤ 4096) (_ : t.val < k),
    (atK m k c main_v56_7 : FVec Ideal S4096x4x128 .f32) (ix3 t b d)
      = Spec.readout (decay m c) (args m c).dtR (args m c).U (Spec.bOf (args m c).U (wbc m c))
          (Spec.cOf (args m c).U (wbc m c)) b t d
  | 0, _, ht => absurd ht (by omega)
  | k + 1, hk, ht => by
    show (afterL bodyI (Vk m c k) main_v56_7 : FVec Ideal S4096x4x128 .f32) (ix3 t b d) = _
    refine (y_trip (Vk m c k) ⟨k, hk⟩ (Vk_ctr m c k) b t d).trans ?_
    by_cases h : k = t.val
    · subst h
      rw [if_pos ⟨le_refl _, by dsimp only; omega⟩]
      unfold Spec.readout
      refine Finset.sum_congr (M := EReal) rfl fun s _ => congr (congrArg HMul.hMul ?_) ?_
      · exact atK_h m c b d s (t.val + 1) hk
      · rw [Vk_2]; exact e2_at m c b t s
    · rw [if_neg (by dsimp only; omega)]
      refine Eq.trans ?_ (atK_y b d t k (by omega) (by omega))
      exact congrFun (Vk_eq m c k main_v56_7 (by decide)) _

end Cert.Proof.RI

end
-- ==== Proof.RI.Post.lean ====
/- The reference after its loop, index by index, up to the normalised image. -/
module

public import proofs.«01_k».proof.Proof.RI.Loop

@[expose] public section

set_option maxRecDepth 16384

noncomputable section

namespace Cert.Proof.RI

open Idealize.ShloMosaic Idealize.ShloMosaic.TcCoe Idealize.ShloMosaic.StableHlo Idealize.SL.Sem
open Cert.ReferenceIdeal Cert.ReferenceIdeal.Gen Cert.ReferenceIdeal.Value
open Mamba

variable (m : (ℓ : Loc nD τ sig) → Buf (Elt Ideal) ℓ) (c : Dev nD)

/-! ## The buffers' contents after each stretch -/

def X0 : Valuation τ sig (Elt Ideal) := Vk m c 4096
def X5 : Valuation τ sig (Elt Ideal) := after hostOps0_5 (X0 m c)
def X6 : Valuation τ sig (Elt Ideal) := after hostOps0_6 (X5 m c)
def X7 : Valuation τ sig (Elt Ideal) := after hostOps0_7 (X6 m c)
def X8 : Valuation τ sig (Elt Ideal) := after hostOps0_8 (X7 m c)
def X9 : Valuation τ sig (Elt Ideal) := after hostOps0_9 (X8 m c)

theorem final_eq : finalContents condOps preI bodyI postI 4096 m c = X9 m c := by
  show afterL postI (after condOps (atK m 4096 c)) = _
  simp only [afterL_cons, afterL_nil, X9, X8, X7, X6, X5, X0, Vk]

theorem X5_keeps (b : Ref sig .tc) (h : b ∉ post5_W) : X5 m c b = X0 m c b := after_of_writes_sub _ _ post5_writes h
theorem X6_keeps (b : Ref sig .tc) (h : b ∉ post6_W) : X6 m c b = X5 m c b := after_of_writes_sub _ _ post6_writes h
theorem X7_keeps (b : Ref sig .tc) (h : b ∉ post7_W) : X7 m c b = X6 m c b := after_of_writes_sub _ _ post7_writes h
theorem X8_keeps (b : Ref sig .tc) (h : b ∉ post8_W) : X8 m c b = X7 m c b := after_of_writes_sub _ _ post8_writes h

/-- What the loop writes. -/
abbrev loopW : List (Ref sig .tc) :=
  condOps_W ++ while0Ops0_W ++ while0Ops0_1_W ++ while0Ops0_2_W ++ while0Ops0_3_W ++ while0Ops0_4_W ++ while0Ops0_5_W
    ++ while0Ops0_6_W

theorem X0_keeps (b : Ref sig .tc) (h : b ∉ loopW) : X0 m c b = W5 m c b := by
  simp only [loopW, List.mem_append, not_or] at h
  exact Vk_entry m c 4096 b h.1.1.1.1.1.1.1 h.1.1.1.1.1.1.2 h.1.1.1.1.1.2 h.1.1.1.1.2 h.1.1.1.2 h.1.1.2 h.1.2 h.2

/-- An argument array is after each stretch as it was at the start. -/
theorem X0_arg (b : Ref sig .tc) (h : b ∉ preW ++ loopW) : X0 m c b = m (c, b) := by
  rw [List.mem_append, not_or] at h
  rw [X0_keeps m c b h.2, arg5 m c b h.1]
theorem X6_arg (b : Ref sig .tc) (h : b ∉ preW ++ loopW) (h' : b ∉ post5_W ++ post6_W) : X6 m c b = m (c, b) := by
  rw [List.mem_append, not_or] at h'
  rw [X6_keeps m c b h'.2, X5_keeps m c b h'.1, X0_arg m c b h]
theorem X8_arg (b : Ref sig .tc) (h : b ∉ preW ++ loopW) (h' : b ∉ post5_W ++ post6_W) (h'' : b ∉ post7_W ++ post8_W) :
    X8 m c b = m (c, b) := by
  rw [List.mem_append, not_or] at h''
  rw [X8_keeps m c b h''.2, X7_keeps m c b h''.1, X6_arg m c b h h']

theorem x0_u (b : Fin 4) (t : Fin 4096) (d : Fin 128) :
    (X0 m c main_v36 : FVec Ideal S4x4096x128 .f32) (ix3 b t d) = (args m c).U b t d := by
  rw [X0_keeps m c main_v36 (by decide +kernel), W5_keeps m c main_v36 (by decide +kernel),
    W4_keeps m c main_v36 (by decide +kernel)]
  exact v36_at m c b t d

theorem x0_z (b : Fin 4) (t : Fin 4096) (d : Fin 128) :
    (X0 m c main_v5 : FVec Ideal S4x4096x128 .f32) (ix3 b t d) = (args m c).Z b t d := by
  rw [X0_keeps m c main_v5 (by decide +kernel), W5_keeps m c main_v5 (by decide +kernel),
    W4_keeps m c main_v5 (by decide +kernel), W3_keeps m c main_v5 (by decide +kernel),
    W2_keeps m c main_v5 (by decide +kernel)]
  exact v5_at m c b t d

theorem x0_y (b : Fin 4) (t : Fin 4096) (d : Fin 128) :
    (X0 m c main_v56_7 : FVec Ideal S4096x4x128 .f32) (ix3 t b d)
      = Spec.readout (decay m c) (args m c).dtR (args m c).U (Spec.bOf (args m c).U (wbc m c))
          (Spec.cOf (args m c).U (wbc m c)) b t d := by
  unfold X0
  rw [Vk_eq m c 4096 main_v56_7 (by decide)]
  exact atK_y m c b d t 4096 (le_refl _) t.isLt

/-! ## The residual stream as an image, and its padding -/

/-- A pixel's place in raster order. -/
def pix (i j : Fin 64) : Fin 4096 := ⟨i.val * 64 + j.val, by omega⟩

theorem X_pix (a : Mamba.Args) (b : Fin 4) (x : Fin 64) (i j : Fin 64) : a.x b x i j = a.X b (pix i j) x := by
  have e1 : (⟨(pix i j).val / 64, by omega⟩ : Fin 64) = i := Fin.ext (by simp only [pix]; omega)
  have e2 : (⟨(pix i j).val % 64, by omega⟩ : Fin 64) = j := Fin.ext (by simp only [pix]; omega)
  unfold Args.X
  rw [e1, e2]

theorem v74_at (b : Fin 4) (x : Fin 64) (i j : Fin 64) :
    (X5 m c main_v74 : FVec Ideal S4x64x64x64 .f32) (ix4 b x i j)
      = (args m c).R (args m c).dtR b (pix i j) x := by
  unfold X5
  after_reads_at
  refine congr (congrArg HAdd.hAdd ?_) (Finset.sum_congr rfl fun d _ => ?_)
  · rw [X0_arg m c main_arg0 (by decide +kernel)]
    exact X_pix (args m c) b x i j
  · rw [x0_u, x0_z, x0_y, X0_arg m c main_arg8 (by decide +kernel), X0_arg m c main_arg9 (by decide +kernel)]
    rfl

theorem c6_at : (X5 m c main_c_6 : IVec S_ 32) (Shape.Idx.first h_S_) = 0#32 := by
  unfold X5
  after_reads_at

theorem v75_at (b : Fin 4) (x : Fin 64) (i j : Fin 66) :
    (X6 m c main_v75 : FVec Ideal S4x64x66x66 .f32) (ix4 b x i j)
      = if h : (1 ≤ i.val ∧ i.val - 1 < 64) ∧ 1 ≤ j.val ∧ j.val - 1 < 64 then
          (args m c).R (args m c).dtR b (pix ⟨i.val - 1, h.1.2⟩ ⟨j.val - 1, h.2.2⟩) x else 0 := by
  unfold X6
  after_reads_at
  by_cases h : (1 ≤ i.val ∧ i.val - 1 < 64) ∧ 1 ≤ j.val ∧ j.val - 1 < 64
  · rw [dif_pos h, dif_pos h]
    exact v74_at m c b x _ _
  · rw [dif_neg h, dif_neg h]
    refine (congrArg (FloatOps.sitofp (F := Ideal) FTy.f32) (c6_at m c)).trans ?_
    simp [FloatOps.sitofp]

theorem v75_near (b : Fin 4) (x : Fin 64) (i j : Fin 64) (dy dx : Nat) (i' j' : Fin 66) (hi : i'.val = i.val + dy)
    (hj : j'.val = j.val + dx) :
    (X6 m c main_v75 : FVec Ideal S4x64x66x66 .f32) (ix4 b x i' j')
      = Spec.near ((args m c).R (args m c).dtR) dy dx b (pix i j) x := by
  rw [v75_at]
  unfold Spec.near
  have e1 : (pix i j).val / 64 = i.val := by simp only [pix]; omega
  have e2 : (pix i j).val % 64 = j.val := by simp only [pix]; omega
  by_cases h : (1 ≤ i'.val ∧ i'.val - 1 < 64) ∧ 1 ≤ j'.val ∧ j'.val - 1 < 64
  · rw [dif_pos h, dif_pos (by omega)]
    exact congrArg (fun p => (args m c).R (args m c).dtR b p x) (Fin.ext (by simp only [pix]; omega))
  · rw [dif_neg h, dif_neg (by omega)]

/-! ## The normalised image -/

theorem v149_at (b : Fin 4) (o : Fin 128) (i j : Fin 64) :
    (X8 m c main_v149 : FVec Ideal S4x128x64x64 .f32) (ix4 b o i j) = (args m c).skipR b (pix i j) o := by
  have hw : X6 m c main_arg10 = m (c, main_arg10) := X6_arg m c _ (by decide +kernel) (by decide +kernel)
  have h11 : X6 m c main_arg11 = m (c, main_arg11) := X6_arg m c _ (by decide +kernel) (by decide +kernel)
  have h12 : X6 m c main_arg12 = m (c, main_arg12) := X6_arg m c _ (by decide +kernel) (by decide +kernel)
  have h13 : X6 m c main_arg13 = m (c, main_arg13) := X6_arg m c _ (by decide +kernel) (by decide +kernel)
  have h14 : X6 m c main_arg14 = m (c, main_arg14) := X6_arg m c _ (by decide +kernel) (by decide +kernel)
  have h15 : X6 m c main_arg15 = m (c, main_arg15) := X6_arg m c _ (by decide +kernel) (by decide +kernel)
  have e148 : (X7 m c main_v148 : FVec Ideal S4x128x64x64 .f32) (ix4 b o i j)
      = (Spec.conv9 ((args m c).R (args m c).dtR) (args m c).pwW b (pix i j) o + (args m c).pwB o - (args m c).mean o)
          * (args m c).r o * (args m c).gamma o + (args m c).beta o := by
    unfold X7
    after_reads_at
    rw [hw, h11, h12, h13, h14, h15]
    have tap : ∀ (dy dx : Fin 3) (hi : i.val + dy.val < 66) (hj : j.val + dx.val < 66) (i' j' : Fin 66)
        (_ : i'.val = i.val + dy.val) (_ : j'.val = j.val + dx.val),
        (∑ x : Fin 64, (show EReal from (X6 m c main_v75 : FVec Ideal S4x64x66x66 .f32) (ix4 b x i' j'))
            * (show EReal from (m (c, main_arg10) : FVec Ideal S128x64x3x3 .f32) (ix4 o x dy dx)))
          = Spec.tap ((args m c).R (args m c).dtR) (args m c).pwW dy dx b (pix i j) o := by
      intro dy dx _ _ i' j' hi hj
      refine Finset.sum_congr rfl fun x _ => congr (congrArg HMul.hMul ?_) rfl
      exact v75_near m c b x i j dy.val dx.val i' j' hi hj
    unfold Spec.conv9
    rw [← tap 0 0 (by simp; omega) (by simp; omega) ⟨i.val, by omega⟩ ⟨j.val, by omega⟩ (by simp) (by simp),
      ← tap 0 1 (by simp; omega) (by simp; omega) ⟨i.val, by omega⟩ ⟨1 + j.val, by omega⟩ (by simp) (by simp; omega),
      ← tap 0 2 (by simp; omega) (by simp; omega) ⟨i.val, by omega⟩ ⟨2 + j.val, by omega⟩ (by simp) (by simp; omega),
      ← tap 1 0 (by simp; omega) (by simp; omega) ⟨1 + i.val, by omega⟩ ⟨j.val, by omega⟩ (by simp; omega) (by simp),
      ← tap 1 1 (by simp; omega) (by simp; omega) ⟨1 + i.val, by omega⟩ ⟨1 + j.val, by omega⟩ (by simp; omega) (by simp; omega),
      ← tap 1 2 (by simp; omega) (by simp; omega) ⟨1 + i.val, by omega⟩ ⟨2 + j.val, by omega⟩ (by simp; omega) (by simp; omega),
      ← tap 2 0 (by simp; omega) (by simp; omega) ⟨2 + i.val, by omega⟩ ⟨j.val, by omega⟩ (by simp; omega) (by simp),
      ← tap 2 1 (by simp; omega) (by simp; omega) ⟨2 + i.val, by omega⟩ ⟨1 + j.val, by omega⟩ (by simp; omega) (by simp; omega),
      ← tap 2 2 (by simp; omega) (by simp; omega) ⟨2 + i.val, by omega⟩ ⟨2 + j.val, by omega⟩ (by simp; omega) (by simp; omega)]
    rfl
  unfold X8
  after_reads_at
  unfold Args.skipR
  exact congrArg (fun x => max x 0) e148

/-- The second result. -/
theorem v174_at (b : Fin 4) (o : Fin 128) (p : Fin 4096) :
    (X9 m c main_v174 : FVec Ideal S4x128x4096 .f32) (ix3 b o p) = (args m c).skipR b p o := by
  unfold X9
  after_reads_at
  refine (v149_at m c b o _ _).trans ?_
  exact congrArg (fun p => (args m c).skipR b p o) (Fin.ext (by simp only [pix]; omega))

end Cert.Proof.RI

end
-- ==== Proof.RI.Pool.lean ====
/- A window's maximum and sum, as the reference takes them: a reduction over two axes of length two. -/
module

public import proofs.«01_k».proof.Proof.RI.Frame
public import proofs.«01_k».proof.Proof.Mamba.Net
public import Idealize.ShloMosaic.Lib.Pointwise

@[expose] public section

set_option maxRecDepth 16384

noncomputable section

namespace Cert.Proof.RI

open Idealize.ShloMosaic Idealize.ShloMosaic.TcCoe Idealize.SL.Sem
open Cert.ReferenceIdeal Cert.ReferenceIdeal.Gen

/-- The places reduced into one window. -/
def places (b : Fin 4) (o : Fin 128) (p q : Fin 32) : Finset S4x128x32x2x32x2.Idx :=
  {ix6 b o p 0 q 0, ix6 b o p 1 q 0, ix6 b o p 0 q 1, ix6 b o p 1 q 1}

theorem two (k : Fin 2) : k = 0 ∨ k = 1 := by omega

theorem places_eq (h : S4x128x32x2x32x2.ReducesTo [3, 5] S4x128x32x32) (b : Fin 4) (o : Fin 128) (p q : Fin 32) :
    (Finset.univ.filter fun i => h.drop i = ix4 b o p q) = places b o p q := by
  ext i
  rw [Finset.mem_filter]
  simp only [Finset.mem_univ, true_and, places, Finset.mem_insert, Finset.mem_singleton]
  constructor
  · intro e
    have h0 : i 0 = b := congrFun e 0
    have h1 : i 1 = o := congrFun e 1
    have h2 : i 2 = p := congrFun e 2
    have h4 : i 4 = q := congrFun e 3
    have hi : i = ix6 b o p (i 3) q (i 5) := by
      funext k
      fin_cases k
      · exact h0
      · exact h1
      · exact h2
      · rfl
      · exact h4
      · rfl
    have h3 : i 3 = (0 : Fin 2) ∨ i 3 = (1 : Fin 2) := two (i 3)
    have h5 : i 5 = (0 : Fin 2) ∨ i 5 = (1 : Fin 2) := two (i 5)
    rw [hi]
    rcases h3 with h3 | h3 <;> rcases h5 with h5 | h5 <;> rw [h3, h5] <;> simp
  · rintro (e | e | e | e) <;> subst e <;> funext k <;> fin_cases k <;> rfl

theorem ix6_ne (b : Fin 4) (o : Fin 128) (p q : Fin 32) (r s r' s' : Fin 2) (h : r ≠ r' ∨ s ≠ s') :
    (ix6 b o p r q s : S4x128x32x2x32x2.Idx) ≠ ix6 b o p r' q s' := fun e =>
  h.elim (fun n => n (congrFun e 3)) (fun n => n (congrFun e 5))

theorem fold_places (f : S4x128x32x2x32x2.Idx → EReal) (b : Fin 4) (o : Fin 128) (p q : Fin 32) :
    (places b o p q).fold max ⊥ f
      = max (max (f (ix6 b o p 0 q 0)) (f (ix6 b o p 1 q 0))) (max (f (ix6 b o p 0 q 1)) (f (ix6 b o p 1 q 1))) := by
  unfold places
  rw [Finset.fold_insert (by simp [ix6_ne]), Finset.fold_insert (by simp [ix6_ne]), Finset.fold_insert (by simp [ix6_ne]),
    Finset.fold_singleton, max_bot_right, max_assoc]

theorem sum_places (f : S4x128x32x2x32x2.Idx → EReal) (b : Fin 4) (o : Fin 128) (p q : Fin 32) :
    ∑ i ∈ places b o p q, f i
      = f (ix6 b o p 0 q 0) + f (ix6 b o p 1 q 0) + (f (ix6 b o p 0 q 1) + f (ix6 b o p 1 q 1)) := by
  unfold places
  rw [Finset.sum_insert (by simp [ix6_ne]), Finset.sum_insert (by simp [ix6_ne]), Finset.sum_insert (by simp [ix6_ne]),
    Finset.sum_singleton, add_assoc]

/-- The reduction by maximum. -/
theorem reduce_max (h : S4x128x32x2x32x2.ReducesTo [3, 5] S4x128x32x32) (f : S4x128x32x2x32x2.Idx → EReal)
    (b : Fin 4) (o : Fin 128) (p q : Fin 32) :
    Finset.fold max (Ideal.ofBits FTy.f32 4286578688#32) f (Finset.univ.filter fun i => h.drop i = ix4 b o p q)
      = max (max (f (ix6 b o p 0 q 0)) (f (ix6 b o p 1 q 0))) (max (f (ix6 b o p 0 q 1)) (f (ix6 b o p 1 q 1))) := by
  rw [places_eq, show Ideal.ofBits FTy.f32 4286578688#32 = ⊥ from by simp [Ideal.ofBits, Ideal.ieee], fold_places]

/-- The reduction by sum. -/
theorem reduce_add (h : S4x128x32x2x32x2.ReducesTo [3, 5] S4x128x32x32) (f : S4x128x32x2x32x2.Idx → EReal)
    (b : Fin 4) (o : Fin 128) (p q : Fin 32) :
    Ideal.hostReduceAdd h f 0 (ix4 b o p q)
      = f (ix6 b o p 0 q 0) + f (ix6 b o p 1 q 0) + (f (ix6 b o p 0 q 1) + f (ix6 b o p 1 q 1)) := by
  unfold Ideal.hostReduceAdd
  rw [places_eq, sum_places, zero_add]

end Cert.Proof.RI

end
-- ==== Proof.RI.Windows.lean ====
/- The reference's pooling, window by window. -/
module

public import proofs.«01_k».proof.Proof.RI.Post
public import proofs.«01_k».proof.Proof.RI.Pool

@[expose] public section

set_option maxRecDepth 16384

noncomputable section

namespace Cert.Proof.RI

open Idealize.ShloMosaic Idealize.ShloMosaic.TcCoe Idealize.ShloMosaic.StableHlo Idealize.SL.Sem
open Cert.ReferenceIdeal Cert.ReferenceIdeal.Gen Cert.ReferenceIdeal.Value
open Mamba

variable (m : (ℓ : Loc nD τ sig) → Buf (Elt Ideal) ℓ) (c : Dev nD)

/-- The contents after the pooling, before the gate. -/
def X8p : Valuation τ sig (Elt Ideal) := after (hostOps0_9.take 8) (X8 m c)

/-- A list of operations runs as its first `n` and then the rest. -/
theorem after_split : ∀ (ops : List (HloOp τ sig (Elt Ideal))) (n : ℕ) (V : Valuation τ sig (Elt Ideal)),
    after ops V = after (ops.drop n) (after (ops.take n) V)
  | [], n, V => by simp only [List.drop_nil, List.take_nil, after_nil]
  | op :: ops, 0, V => by simp only [List.drop_zero, List.take_zero, after_nil]
  | op :: ops, n + 1, V => by
    simp only [List.drop_succ_cons, List.take_succ_cons, after_cons]
    exact after_split ops n _

theorem X9_eq : X9 m c = after (hostOps0_9.drop 8) (X8p m c) := after_split hostOps0_9 8 (X8 m c)

/-- A window's place in the pooled image, in raster order. -/
def place (p q : Fin 32) : Fin 1024 := ⟨p.val * 32 + q.val, by omega⟩

theorem win_pix (p q : Fin 32) (r s : Fin 2) (h1 h2) :
    pix ⟨p.val * 2 + r.val, h1⟩ ⟨q.val * 2 + s.val, h2⟩ = Spec.win (place p q) r s :=
  Fin.ext (by simp only [pix, Spec.win, place]; omega)

theorem win_at (b : Fin 4) (o : Fin 128) (p q : Fin 32) (r s : Fin 2) (h1 h2) :
    (X8 m c main_v149 : FVec Ideal S4x128x64x64 .f32) (ix4 b o ⟨p.val * 2 + r.val, h1⟩ ⟨q.val * 2 + s.val, h2⟩)
      = (args m c).skipR b (Spec.win (place p q) r s) o :=
  (v149_at m c b o _ _).trans (congrArg (fun t => (args m c).skipR b t o) (win_pix p q r s h1 h2))

theorem v151_at (b : Fin 4) (o : Fin 128) (p q : Fin 32) :
    (X8p m c main_v151 : FVec Ideal S4x128x32x32 .f32) (ix4 b o p q) = Spec.wmax (args m c).skipR b (place p q) o := by
  unfold X8p
  simp only [List.take_succ_cons, List.take_zero]
  after_reads_at
  refine (reduce_max _ _ b o p q).trans ?_
  exact congr (congrArg max (congr (congrArg max (win_at m c b o p q 0 0 _ _)) (win_at m c b o p q 1 0 _ _)))
    (congr (congrArg max (win_at m c b o p q 0 1 _ _)) (win_at m c b o p q 1 1 _ _))

theorem v154_at (b : Fin 4) (o : Fin 128) (p q : Fin 32) :
    (X8p m c main_v154 : FVec Ideal S4x128x32x32 .f32) (ix4 b o p q) = Spec.wmean (args m c).skipR b (place p q) o := by
  unfold X8p
  simp only [List.take_succ_cons, List.take_zero]
  after_reads_at
  refine congr (congrArg HMul.hMul ((reduce_add _ _ b o p q).trans ?_)) rfl
  exact congr (congrArg HAdd.hAdd (congr (congrArg HAdd.hAdd (win_at m c b o p q 0 0 _ _)) (win_at m c b o p q 1 0 _ _)))
    (congr (congrArg HAdd.hAdd (win_at m c b o p q 0 1 _ _)) (win_at m c b o p q 1 1 _ _))

theorem x8p_16 : X8p m c main_arg16 = m (c, main_arg16) :=
  (show X8p m c main_arg16 = X8 m c main_arg16 from by
    unfold X8p
    simp only [List.take_succ_cons, List.take_zero]
    after_reads_simp).trans
    (X8_arg m c main_arg16 (by decide +kernel) (by decide +kernel) (by decide +kernel))
theorem x8p_17 : X8p m c main_arg17 = m (c, main_arg17) :=
  (show X8p m c main_arg17 = X8 m c main_arg17 from by
    unfold X8p
    simp only [List.take_succ_cons, List.take_zero]
    after_reads_simp).trans
    (X8_arg m c main_arg17 (by decide +kernel) (by decide +kernel) (by decide +kernel))

end Cert.Proof.RI

end
-- ==== Proof.RI.Down.lean ====
/- The reference's pooled result. -/
module

public import proofs.«01_k».proof.Proof.RI.Windows

@[expose] public section

set_option maxRecDepth 16384

noncomputable section

namespace Cert.Proof.RI

open Idealize.ShloMosaic Idealize.ShloMosaic.TcCoe Idealize.ShloMosaic.StableHlo Idealize.SL.Sem
open Cert.ReferenceIdeal Cert.ReferenceIdeal.Gen Cert.ReferenceIdeal.Value
open Mamba

/-- The gated mix, from its readings. -/
theorem mix_of (s : Spec.Seq 128) (g : Fin 128 → Fin 256 → EReal) (gb : Fin 128 → EReal) (b : Fin 4) (q : Fin 1024) (o : Fin 128)
    (mp ap w₁ w₂ : Fin 128 → EReal) (w : EReal) (h₁ : ∀ k, mp k = Spec.wmax s b q k) (h₂ : ∀ k, ap k = Spec.wmean s b q k)
    (h₃ : ∀ k, w₁ k = g o ⟨k.val, by omega⟩) (h₄ : ∀ k, w₂ k = g o ⟨128 + k.val, by omega⟩) (h₅ : w = gb o) :
    Ideal.logistic ((∑ k : Fin 128, mp k * w₁ k) + (∑ k : Fin 128, ap k * w₂ k) + w) * mp o
      + (1 - Ideal.logistic ((∑ k : Fin 128, mp k * w₁ k) + (∑ k : Fin 128, ap k * w₂ k) + w)) * ap o
      = Spec.mix s g gb b q o := by
  obtain rfl : mp = fun k => Spec.wmax s b q k := funext h₁
  obtain rfl : ap = fun k => Spec.wmean s b q k := funext h₂
  obtain rfl : w₁ = fun k => g o ⟨k.val, by omega⟩ := funext h₃
  obtain rfl : w₂ = fun k => g o ⟨128 + k.val, by omega⟩ := funext h₄
  subst h₅
  rfl

variable (m : (ℓ : Loc nD τ sig) → Buf (Elt Ideal) ℓ) (c : Dev nD)

/-- The first result. -/
theorem v173_at (b : Fin 4) (o : Fin 128) (i : Fin 1024) :
    (X9 m c main_v173 : FVec Ideal S4x128x1024 .f32) (ix3 b o i) = (args m c).down (args m c).skipR b i o := by
  have hi : place ⟨i.val / 32, by omega⟩ ⟨i.val % 32, by omega⟩ = i := Fin.ext (by simp only [place]; omega)
  have key := mix_of (args m c).skipR (args m c).gateW (args m c).gateB b i o
    (fun k => (X8p m c main_v151 : FVec Ideal S4x128x32x32 .f32) (ix4 b k ⟨i.val / 32, by omega⟩ ⟨i.val % 32, by omega⟩))
    (fun k => (X8p m c main_v154 : FVec Ideal S4x128x32x32 .f32) (ix4 b k ⟨i.val / 32, by omega⟩ ⟨i.val % 32, by omega⟩))
    (fun k => (X8p m c main_arg16 : FVec Ideal S128x256x1x1 .f32) (ix4 o ⟨k.val, by omega⟩ 0 0))
    (fun k => (X8p m c main_arg16 : FVec Ideal S128x256x1x1 .f32) (ix4 o ⟨128 + k.val, by omega⟩ 0 0))
    ((X8p m c main_arg17 : FVec Ideal S128 .f32) (ix1 o))
    (fun k => (v151_at m c b k _ _).trans (congrArg (fun t => Spec.wmax (args m c).skipR b t k) hi))
    (fun k => (v154_at m c b k _ _).trans (congrArg (fun t => Spec.wmean (args m c).skipR b t k) hi))
    (fun k => congrFun (x8p_16 m c) _) (fun k => congrFun (x8p_16 m c) _) (congrFun (x8p_17 m c) _)
  rw [X9_eq]
  simp only [List.drop_succ_cons, List.drop_zero]
  after_reads_at
  simp only [upto_zero]
  exact key

end Cert.Proof.RI

end
-- ==== Proof.RI.Result.lean ====
/- What the reference's run leaves: its two results, in the program's arguments. -/
module

public import proofs.«01_k».proof.Proof.RI.Down

@[expose] public section

set_option maxRecDepth 16384

noncomputable section

namespace Cert.Proof.RI

open Idealize.ShloMosaic Idealize.ShloMosaic.TcCoe Idealize.ShloMosaic.StableHlo Idealize.SL.Sem
open Cert.ReferenceIdeal Cert.ReferenceIdeal.Gen Cert.ReferenceIdeal.Value
open Mamba

variable (m : (ℓ : Loc nD τ sig) → Buf (Elt Ideal) ℓ) (c : Dev nD)

/-- The normalised image, as an array. -/
theorem v174_eq : (finalContents condOps preI bodyI postI 4096 m c main_v174 : FVec Ideal S4x128x4096 .f32)
    = fun i => (args m c).skipR (i 0) (i 2) (i 1) := by
  rw [final_eq]
  funext i
  obtain ⟨b, o, p, rfl⟩ : ∃ (b : Fin 4) (o : Fin 128) (p : Fin 4096), i = ix3 b o p := ⟨i 0, i 1, i 2, by funext a; fin_cases a <;> rfl⟩
  exact v174_at m c b o p

/-- The pooled image, as an array. -/
theorem v173_eq : (finalContents condOps preI bodyI postI 4096 m c main_v173 : FVec Ideal S4x128x1024 .f32)
    = fun i => (args m c).down (args m c).skipR (i 0) (i 2) (i 1) := by
  rw [final_eq]
  funext i
  obtain ⟨b, o, p, rfl⟩ : ∃ (b : Fin 4) (o : Fin 128) (p : Fin 1024), i = ix3 b o p := ⟨i 0, i 1, i 2, by funext a; fin_cases a <;> rfl⟩
  exact v173_at m c b o p

end Cert.Proof.RI

end
-- ==== Proof.RI.Agree.lean ====
/- The kernel and the reference, from the same arguments, leave the same results. -/
module

public import proofs.«01_k».proof.Defs
public import proofs.«01_k».proof.Proof.KI.Launch
public import proofs.«01_k».proof.Proof.KI.Tame
public import proofs.«01_k».proof.Proof.RI.Result
public import Idealize.ShloMosaic.Lib.Claim

@[expose] public section

set_option maxRecDepth 16384

noncomputable section

namespace Cert.Proof

open Idealize.ShloMosaic Idealize.ShloMosaic.TcCoe Idealize.SL.Sem
open Mamba

/-- The kernel's memories and the reference's. -/
abbrev KMem : Type := (ℓ : Loc Cert.KernelIdeal.nD Cert.KernelIdeal.τ Cert.KernelIdeal.sig) → Buf (Elt Ideal) ℓ
abbrev RMem : Type := (ℓ : Loc Cert.ReferenceIdeal.nD Cert.ReferenceIdeal.τ Cert.ReferenceIdeal.sig) → Buf (Elt Ideal) ℓ

/-- The kernel's first result is the reference's. -/
theorem down_eq (m : KMem) (m' : RMem) (c : Dev Cert.KernelIdeal.nD) (ha : RI.args m' c = KI.args m c) (ht : (KI.args m c).Tame) :
    (fun i : Cert.ReferenceIdeal.S4x128x1024.Idx => (RI.args m' c).down (RI.args m' c).skipR (i 0) (i 2) (i 1))
      = KI.downOut m c := by
  rw [ha, ← ht.skip]
  rfl

/-- The kernel's second result is the reference's. -/
theorem skip_eq (m : KMem) (m' : RMem) (c : Dev Cert.KernelIdeal.nD) (ha : RI.args m' c = KI.args m c) (ht : (KI.args m c).Tame) :
    (fun i : Cert.ReferenceIdeal.S4x128x4096.Idx => (RI.args m' c).skipR (i 0) (i 2) (i 1)) = KI.skipOut m c := by
  rw [ha, ← ht.skip]
  rfl

/-- The kernel equals the reference. -/
theorem agree (hp : Cert.Pre_tame.Facts) : Cert.algebraic_KernelIdeal_ReferenceIdeal_pre_tame
    (hKernelIdeal := Cert.KernelIdeal.Gen.facts) (hReferenceIdeal := Cert.ReferenceIdeal.Gen.facts) (hPre_tame := hp) := by
  intro m g m' g' h he
  have ht := KI.tame_args hp m h
  have ha : ∀ c : Dev Cert.KernelIdeal.nD, RI.args m' c = KI.args m c := by
    intro c
    obtain ⟨e0, e1, e2, e3, e4, e5, e6, e7, e8, e9, e10, e11, e12, e13, e14, e15, e16, e17⟩ := he c
    unfold RI.args KI.args
    congr 1
    · funext b x y z; exact congrFun e0 (ix4 b x y z)
    · funext e x; exact congrFun e1 (ix2 e x)
    · funext d n; exact congrFun e2 (ix3 d 0 n)
    · funext d; exact congrFun e3 (ix1 d)
    · funext s k; exact congrFun e4 (ix2 s k)
    · funext d r; exact congrFun e5 (ix2 d r)
    · funext d; exact congrFun e6 (ix1 d)
    · funext d s; exact congrFun e7 (ix2 d s)
    · funext d; exact congrFun e8 (ix1 d)
    · funext x d; exact congrFun e9 (ix2 x d)
    · funext o x y z; exact congrFun e10 (ix4 o x y z)
    · funext o; exact congrFun e11 (ix1 o)
    · funext o; exact congrFun e12 (ix1 o)
    · funext o; exact congrFun e13 (ix1 o)
    · funext o; exact congrFun e14 (ix1 o)
    · funext o; exact congrFun e15 (ix1 o)
    · funext o k; exact congrFun e16 (ix4 o k 0 0)
    · funext o; exact congrFun e17 (ix1 o)
  refine ⟨KI.downOut m, KI.skipOut m, ?_, ?_⟩
  · have hk := θ_run_and (Cert.KernelIdeal.Gen.frame_of m g (KI.dats m) (fun _ _ => rfl) (θ_run_mono (KI.run_main m g) fun _ h => h.1))
      (θ_run_mono (KI.run_main m g) fun r h => KI.run_results m r h.1)
    exact θ_run_mono hk fun r hr c => ⟨(hr.2 c).1, (hr.2 c).2, hr.1 c⟩
  · have hk := θ_run_and (RI.frame m' g') (RI.run_main m' g')
    refine θ_run_mono hk fun r hr c => ⟨?_, ?_, hr.1.1 c⟩
    · exact (hr.2.1 c Cert.ReferenceIdeal.main_v173 rfl).trans ((RI.v173_eq m' c).trans (down_eq m m' c (ha c) (ht c)))
    · exact (hr.2.1 c Cert.ReferenceIdeal.main_v174 rfl).trans ((RI.v174_eq m' c).trans (skip_eq m m' c (ha c) (ht c)))

end Cert.Proof

end
-- ==== Proof.K.Body.lean ====
/- One trip of the printed loop is the trip of the recurrence over the three scratch buffers. -/
module

public import proofs.«01_k».proof.Proof.Gen.Kernel.Skeleton
public import proofs.«01_k».proof.Proof.Mamba.Scan
public import Idealize.ShloMosaic.Lib.Tactic
@[expose] public section
set_option maxRecDepth 16384
noncomputable section
namespace Cert.Proof.K

open Cert.Kernel Cert.Kernel.Gen
open Idealize.ShloMosaic Idealize.ShloMosaic.TcCoe Idealize.SL.Sem
variable {F : FTy → Type} [FloatOps F]

/-- A trip of the printed loop is `Mamba.trip`, at the exponents the loop is entered with. -/
theorem body_eq (i : grid0.Coords) (arg1 : Memref sig .tc .vmem S4x4096x64 .f32) (harg1 : arg1.IsWhole) (arg2 : Memref sig .tc .vmem S256x64 .f32) (harg2 : arg2.IsWhole) (arg3 : Memref sig .tc .vmem S3x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S32x128 .f32) (harg7 : arg7.IsWhole) (arg8 : Memref sig .tc .vmem S16x128 .f32) (harg8 : arg8.IsWhole) (arg9 : Memref sig .tc .vmem S1x128 .f32) (harg9 : arg9.IsWhole) (arg10 : Memref sig .tc .vmem S64x128 .f32) (harg10 : arg10.IsWhole) (arg11 : Memref sig .tc .vmem S9x128x64 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S128x256 .f32) (harg14 : arg14.IsWhole) (arg15 : Memref sig .tc .vmem S1x128 .f32) (harg15 : arg15.IsWhole) (arg16 : Memref sig .tc .vmem S4x128x4096 .f32) (harg16 : arg16.IsWhole) (arg17 : Memref sig .tc .vmem S4x128x1024 .f32) (harg17 : arg17.IsWhole) (arg18 : Memref sig .tc .vmem S16384x128 .f32) (harg18 : arg18.IsWhole) (arg19 : Memref sig .tc .vmem S16384x128 .f32) (harg19 : arg19.IsWhole) (arg20 : Memref sig .tc .vmem S32x16384 .f32) (harg20 : arg20.IsWhole) (v6 : FVec F S16384x128 .f32) (v61 : FVec F S16384x128 .f32) (v82 : FVec F S16384x128 .f32) (v83 : Vec F S32x128 .f32) (v95 : Vec F S16x128 .f32) (k : Fin k0_t1_loop.trips) (hs : Mamba.States F) :
   k0_t1_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v6 v61 v82 v83 v95 k hs = Mamba.trip arg18 arg19 arg20 (k0_pay1438 v95) k hs := by
  sl_kernel_rfl
end Cert.Proof.K
-- ==== Proof.lean ====
/- The claims, assembled from the modules beside this file. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.RI.Frame
public import proofs.«01_k».proof.Proof.RI.Agree
public import proofs.«01_k».proof.Proof.K.Launch
public import proofs.«01_k».proof.Proof.KI.Launch

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, KI.preFacts,
  fun m ρ _ => θ_run_with_sems (Cert.Kernel.Gen.frame_of m ρ (K.dats m) fun _ _ => rfl) (K.run_main m ρ),
  fun m ρ _ => θ_run_with_sems (Cert.KernelIdeal.Gen.frame_of m ρ (KI.dats m) fun _ _ => rfl) (KI.run_main m ρ),
  fun m ρ _ => θ_run_with_sems (Cert.KernelIdeal.Gen.frame_of m ρ (KI.dats m) fun _ _ => rfl) (KI.run_main m ρ),
  fun m ρ _ => RI.frame m ρ, fun m ρ _ => RI.frame m ρ, trivial, agree KI.preFacts⟩

end Cert.Proof

end
